-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_unique [hPre_nearest_unique : Cert.Pre_nearest_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_unique [hPre_nearest_unique : Cert.Pre_nearest_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nearest_unique [hKernelIdeal : Cert.KernelIdeal.Facts] [hPre_nearest_unique : Cert.Pre_nearest_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_unique m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nearest_unique [hReferenceIdeal : Cert.ReferenceIdeal.Facts] [hPre_nearest_unique : Cert.Pre_nearest_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_nearest_unique [hKernelIdeal : Cert.KernelIdeal.Facts] [hReferenceIdeal : Cert.ReferenceIdeal.Facts] [hPre_nearest_unique : Cert.Pre_nearest_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_unique m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_nearest_unique : Cert.Pre_nearest_unique.Facts),
    quiescent_Kernel (hKernel := hKernel)
    ∧ quiescent_KernelIdeal (hKernelIdeal := hKernelIdeal)
    ∧ quiescent_KernelIdeal_pre_nearest_unique (hKernelIdeal := hKernelIdeal) (hPre_nearest_unique := hPre_nearest_unique)
    ∧ quiescent_ReferenceIdeal (hReferenceIdeal := hReferenceIdeal)
    ∧ quiescent_ReferenceIdeal_pre_nearest_unique (hReferenceIdeal := hReferenceIdeal) (hPre_nearest_unique := hPre_nearest_unique)
    ∧ preserves_Kernel_KernelIdeal
    ∧ algebraic_KernelIdeal_ReferenceIdeal_pre_nearest_unique (hKernelIdeal := hKernelIdeal) (hReferenceIdeal := hReferenceIdeal) (hPre_nearest_unique := hPre_nearest_unique)
-- ==== Pre_nearest_unique.lean ====
abbrev S64x2048 : Shape := ⟨2, ![64, 2048]⟩
abbrev S512x1 : Shape := ⟨2, ![512, 1]⟩
abbrev S1000x2048 : Shape := ⟨2, ![1000, 2048]⟩
abbrev S1000 : Shape := ⟨1, ![1000]⟩
abbrev S131072x1 : Shape := ⟨2, ![131072, 1]⟩
abbrev S_ : Shape := ⟨0, ![]⟩
abbrev S131072 : Shape := ⟨1, ![131072]⟩
abbrev S512 : Shape := ⟨1, ![512]⟩
abbrev S1x512 : Shape := ⟨2, ![1, 512]⟩
abbrev S131072x512 : Shape := ⟨2, ![131072, 512]⟩

class Facts : Prop where
  shapeCasts_S64x2048_S131072x1 : S64x2048.ShapeCasts S131072x1
  reducesTo_S131072x1_S131072_d1 : S131072x1.ReducesTo [1] S131072
  h_S_ : 0 < S_.numel
  bcast_S131072_S131072x1_0 : S131072.BroadcastsInDim S131072x1 (![0] : Fin 1 → Fin S131072x1.rank)
  reducesTo_S512x1_S512_d1 : S512x1.ReducesTo [1] S512
  transposes_S512x1_S1x512_1_0 : S512x1.Transposes [1, 0] S1x512
  bcast_S_S131072x512 : S_.BroadcastsInDim S131072x512 (![] : Fin 0 → Fin S131072x512.rank)
  bcast_S131072x1_S131072x512_0_1 : S131072x1.BroadcastsInDim S131072x512 (![0, 1] : Fin 2 → Fin S131072x512.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  reducesTo_S131072x512_S131072_d1 : S131072x512.ReducesTo [1] S131072
  shapeCasts_S512x1_S1x512 : S512x1.ShapeCasts S1x512
  bcast_S_S512x1 : S_.BroadcastsInDim S512x1 (![] : Fin 0 → Fin S512x1.rank)
  reducesTo_S512x1_S_d0_1 : S512x1.ReducesTo [0, 1] S_
  reducesTo_S131072_S_d0 : S131072.ReducesTo [0] S_
  dot_S131072x1_S1x512_S131072x512_1_0_0_1_n_n_wf : DotDims.WF S131072x1 S1x512 S131072x512 [1] [0] [0] [1] [] []

variable [Facts]

def dot_S131072x1_S1x512_S131072x512_1_0_0_1_n_n : DotDims S131072x1 S1x512 S131072x512 where
  lhsContracting := [1]
  rhsContracting := [0]
  lhsNonContracting := [0]
  rhsNonContracting := [1]
  lhsBatch := []
  rhsBatch := []
  wf := dot_S131072x1_S1x512_S131072x512_1_0_0_1_n_n_wf
def fn_where {F : FTy → Type} [FloatOps F] (arg0 : IVec S131072x512 1) (arg1 : FVec F S1x512 .f32) (arg2 : FVec F S_ .f32) : FVec F S131072x512 .f32 :=
  let v0 : FVec F S_ .f32 := id arg2
  let v1 : FVec F S131072x512 .f32 := broadcastInDim S131072x512 ![0, 1] bcast_S1x512_S131072x512_0_1 arg1
  let v2 : FVec F S131072x512 .f32 := broadcastInDim S131072x512 ![] bcast_S_S131072x512 v0
  let v3 : FVec F S131072x512 .f32 := select arg0 v1 v2
  v3

def fn_part1 {F : FTy → Type} [FloatOps F] (main_arg1 : FVec F S512x1 .f32) (main_v18 : IVec S131072x512 1) (main_v19 : FVec F S1x512 .f32) : IVec S_ 1 :=
  let main_cst_3 : FVec F S_ .f32 := constant S_ .f32 0x7F800000#32
  let main_v20 : FVec F S131072x512 .f32 := fn_where (F := F) main_v18 main_v19 main_cst_3
  let main_cst_4 : FVec F S_ .f32 := constant S_ .f32 0x7F800000#32
  let main_v21 : FVec F S131072 .f32 := (fun x v => Host.reduce FloatOps.minimumf x v reducesTo_S131072x512_S131072_d1 h_S_) main_v20 main_cst_4
  let main_cst_5 : FVec F S_ .f32 := constant S_ .f32 0xFF800000#32
  let main_v22 : FVec F S131072x512 .f32 := fn_where (F := F) main_v18 main_v19 main_cst_5
  let main_cst_6 : FVec F S_ .f32 := constant S_ .f32 0xFF800000#32
  let main_v23 : FVec F S131072 .f32 := (fun x v => Host.reduce FloatOps.maximumf x v reducesTo_S131072x512_S131072_d1 h_S_) main_v22 main_cst_6
  let main_v24 : FVec F S512x1 .f32 := Host.absf main_arg1
  let main_cst_7 : FVec F S_ .f32 := constant S_ .f32 0x7F800000#32
  let main_v25 : FVec F S512x1 .f32 := broadcastInDim S512x1 ![] bcast_S_S512x1 main_cst_7
  let main_v26 : IVec S512x1 1 := cmpf .olt main_v24 main_v25
  let main_c : IVec S_ 1 := constantI S_ 1 1#1
  let main_v27 : IVec S_ 1 := (fun x v => Host.reduce IntOp.andi x v reducesTo_S512x1_S_d0_1 h_S_) main_v26 main_c
  let main_v28 : IVec S131072 1 := cmpf .oeq main_v21 main_v23
  let main_c_8 : IVec S_ 1 := constantI S_ 1 1#1
  let main_v29 : IVec S_ 1 := (fun x v => Host.reduce IntOp.andi x v reducesTo_S131072_S_d0 h_S_) main_v28 main_c_8
  let main_v30 : IVec S_ 1 := andi main_v27 main_v29
  main_v30

def fn {F : FTy → Type} [FloatOps F] (main_arg0 : FVec F S64x2048 .f32) (main_arg1 : FVec F S512x1 .f32) (main_arg2 : FVec F S1000x2048 .f32) (main_arg3 : FVec F S1000 .f32) : IVec S_ 1 :=
  let main_v0 : FVec F S131072x1 .f32 := shapeCast S131072x1 main_arg0 shapeCasts_S64x2048_S131072x1
  let main_v1 : FVec F S131072x1 .f32 := mulf main_v0 main_v0
  let main_cst : FVec F S_ .f32 := constant S_ .f32 0x00000000#32
  let main_v2 : FVec F S131072 .f32 := (fun x v => Host.reduceAdd x v reducesTo_S131072x1_S131072_d1 h_S_) main_v1 main_cst
  let main_v3 : FVec F S131072x1 .f32 := broadcastInDim S131072x1 ![0] bcast_S131072_S131072x1_0 main_v2
  let main_v4 : FVec F S512x1 .f32 := mulf main_arg1 main_arg1
  let main_cst_0 : FVec F S_ .f32 := constant S_ .f32 0x00000000#32
  let main_v5 : FVec F S512 .f32 := (fun x v => Host.reduceAdd x v reducesTo_S512x1_S512_d1 h_S_) main_v4 main_cst_0
  let main_v6 : FVec F S1x512 .f32 := (transpose S1x512 [1, 0] · transposes_S512x1_S1x512_1_0) main_arg1
  let main_v7 : FVec F S131072x512 .f32 := (fun l r => Host.dotGeneral dot_S131072x1_S1x512_S131072x512_1_0_0_1_n_n none l r) main_v0 main_v6
  let main_cst_1 : FVec F S_ .f32 := constant S_ .f32 0x40000000#32
  let main_v8 : FVec F S131072x512 .f32 := broadcastInDim S131072x512 ![] bcast_S_S131072x512 main_cst_1
  let main_v9 : FVec F S131072x512 .f32 := mulf main_v8 main_v7
  let main_v10 : FVec F S131072x512 .f32 := broadcastInDim S131072x512 ![0, 1] bcast_S131072x1_S131072x512_0_1 main_v3
  let main_v11 : FVec F S131072x512 .f32 := subf main_v10 main_v9
  let main_v12 : FVec F S1x512 .f32 := broadcastInDim S1x512 ![1] bcast_S512_S1x512_1 main_v5
  let main_v13 : FVec F S131072x512 .f32 := broadcastInDim S131072x512 ![0, 1] bcast_S1x512_S131072x512_0_1 main_v12
  let main_v14 : FVec F S131072x512 .f32 := addf main_v11 main_v13
  let main_cst_2 : FVec F S_ .f32 := constant S_ .f32 0x7F800000#32
  let main_v15 : FVec F S131072 .f32 := (fun x v => Host.reduce FloatOps.minimumf x v reducesTo_S131072x512_S131072_d1 h_S_) main_v14 main_cst_2
  let main_v16 : FVec F S131072x1 .f32 := broadcastInDim S131072x1 ![0] bcast_S131072_S131072x1_0 main_v15
  let main_v17 : FVec F S131072x512 .f32 := broadcastInDim S131072x512 ![0, 1] bcast_S131072x1_S131072x512_0_1 main_v16
  let main_v18 : IVec S131072x512 1 := cmpf .ole main_v14 main_v17
  let main_v19 : FVec F S1x512 .f32 := shapeCast S1x512 main_arg1 shapeCasts_S512x1_S1x512
  fn_part1 (F := F) main_arg1 main_v18 main_v19
-- ==== Kernel.lean ====
abbrev S64x2048 : Shape := ⟨2, ![64, 2048]⟩
abbrev S512x1 : Shape := ⟨2, ![512, 1]⟩
abbrev S1000x2048 : Shape := ⟨2, ![1000, 2048]⟩
abbrev S1000 : Shape := ⟨1, ![1000]⟩
abbrev S512x128 : Shape := ⟨2, ![512, 128]⟩
abbrev S1x512 : Shape := ⟨2, ![1, 512]⟩
abbrev S8x512 : Shape := ⟨2, ![8, 512]⟩
abbrev S512x512 : Shape := ⟨2, ![512, 512]⟩
abbrev S512 : Shape := ⟨1, ![512]⟩
abbrev S4x512 : Shape := ⟨2, ![4, 512]⟩
abbrev S131072 : Shape := ⟨1, ![131072]⟩
abbrev S4096 : Shape := ⟨1, ![4096]⟩
abbrev S_ : Shape := ⟨0, ![]⟩
abbrev S16 : Shape := ⟨1, ![16]⟩
abbrev S1x1000 : Shape := ⟨2, ![1, 1000]⟩
abbrev S8x1000 : Shape := ⟨2, ![8, 1000]⟩
abbrev S64x1000 : Shape := ⟨2, ![64, 1000]⟩

abbrev nBuf : Table → Nat
  | .hbm => 18
  | .local .tc .vmem => 7
  | .local .scVector .vmem => 4
  | _ => 0

abbrev bufTy : (tb : Table) → Fin (nBuf tb) → BufTy
  | .hbm, ⟨0, _⟩ => ⟨S64x2048, .f32⟩
  | .hbm, ⟨1, _⟩ => ⟨S512x1, .f32⟩
  | .hbm, ⟨2, _⟩ => ⟨S1000x2048, .f32⟩
  | .hbm, ⟨3, _⟩ => ⟨S1000, .f32⟩
  | .hbm, ⟨4, _⟩ => ⟨S512x128, .f32⟩
  | .hbm, ⟨5, _⟩ => ⟨S1x512, .f32⟩
  | .hbm, ⟨6, _⟩ => ⟨S8x512, .f32⟩
  | .hbm, ⟨7, _⟩ => ⟨S8x512, .f32⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S512, .f32⟩
  | .hbm, ⟨12, _⟩ => ⟨S131072, .f32⟩
  | .hbm, ⟨13, _⟩ => ⟨S131072, .f32⟩
  | .hbm, ⟨14, _⟩ => ⟨S64x2048, .f32⟩
  | .hbm, ⟨15, _⟩ => ⟨S1x1000, .f32⟩
  | .hbm, ⟨16, _⟩ => ⟨S8x1000, .f32⟩
  | .hbm, ⟨17, _⟩ => ⟨S64x1000, .f32⟩
  | .local .tc .vmem, ⟨0, _⟩ => ⟨S512x128, .f32⟩
  | .local .tc .vmem, ⟨1, _⟩ => ⟨S8x512, .f32⟩
  | .local .tc .vmem, ⟨2, _⟩ => ⟨S8x512, .f32⟩
  | .local .tc .vmem, ⟨3, _⟩ => ⟨S64x2048, .f32⟩
  | .local .tc .vmem, ⟨4, _⟩ => ⟨S1000x2048, .f32⟩
  | .local .tc .vmem, ⟨5, _⟩ => ⟨S8x1000, .f32⟩
  | .local .tc .vmem, ⟨6, _⟩ => ⟨S64x1000, .f32⟩
  | .local .scVector .vmem, ⟨0, _⟩ => ⟨S4096, .f32⟩
  | .local .scVector .vmem, ⟨1, _⟩ => ⟨S512, .f32⟩
  | .local .scVector .vmem, ⟨2, _⟩ => ⟨S512, .f32⟩
  | .local .scVector .vmem, ⟨3, _⟩ => ⟨S4096, .f32⟩
  | _, _ => ⟨S64x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v8_scv : Ref sig .scVector := ⟨.hbm, 12, rfl⟩
abbrev main_v5_scv : Ref sig .scVector := ⟨.hbm, 9, rfl⟩
abbrev main_v7_scv : Ref sig .scVector := ⟨.hbm, 11, rfl⟩
abbrev main_v9_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg1_0 : Ref sig .tc := ⟨.vmem, 4, rfl⟩
abbrev cc2_stg2_0 : Ref sig .tc := ⟨.vmem, 5, rfl⟩
abbrev cc2_stg3_0 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc2_sem0_0 : DmaSem sig := 7
abbrev cc2_sem1_0 : DmaSem sig := 8
abbrev cc2_sem2_0 : DmaSem sig := 9
abbrev cc2_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]

def k1_chk1 (v3 : IVec S16 32) : Prop :=
  (∀ a x, ((![v3] : Fin 1 → IVec S16 32) a x).toNat < S512.size a)
theorem k1_idx1_inb : ∀ (v3 : IVec S16 32) (k1_hw1 : k1_chk1 v3), ∀ a x, ((![v3] : Fin 1 → IVec S16 32) a x).toNat < S512.size a := fun v3 k1_hw1 => k1_hw1

def k1_chk2 (v5 : IVec S16 32) : Prop :=
  (∀ a x, ((![v5] : Fin 1 → IVec S16 32) a x).toNat < S512.size a)
theorem k1_idx2_inb : ∀ (v5 : IVec S16 32) (k1_hw2 : k1_chk2 v5), ∀ a x, ((![v5] : Fin 1 → IVec S16 32) a x).toNat < S512.size a := fun v5 k1_hw2 => k1_hw2

def k1_chk3 (v7 : IVec S16 32) : Prop :=
  (∀ a x, ((![v7] : Fin 1 → IVec S16 32) a x).toNat < S512.size a)
theorem k1_idx3_inb : ∀ (v7 : IVec S16 32) (k1_hw3 : k1_chk3 v7), ∀ a x, ((![v7] : Fin 1 → IVec S16 32) a x).toNat < S512.size a := fun v7 k1_hw3 => k1_hw3

def k1_chk4 (v9 : IVec S16 32) : Prop :=
  (∀ a x, ((![v9] : Fin 1 → IVec S16 32) a x).toNat < S512.size a)
theorem k1_idx4_inb : ∀ (v9 : IVec S16 32) (k1_hw4 : k1_chk4 v9), ∀ a x, ((![v9] : Fin 1 → IVec S16 32) a x).toNat < S512.size a := fun v9 k1_hw4 => k1_hw4

def k1_chk5 (v11 : IVec S16 32) : Prop :=
  (∀ a x, ((![v11] : Fin 1 → IVec S16 32) a x).toNat < S512.size a)
theorem k1_idx5_inb : ∀ (v11 : IVec S16 32) (k1_hw5 : k1_chk5 v11), ∀ a x, ((![v11] : Fin 1 → IVec S16 32) a x).toNat < S512.size a := fun v11 k1_hw5 => k1_hw5

def k1_chk6 (v13 : IVec S16 32) : Prop :=
  (∀ a x, ((![v13] : Fin 1 → IVec S16 32) a x).toNat < S512.size a)
theorem k1_idx6_inb : ∀ (v13 : IVec S16 32) (k1_hw6 : k1_chk6 v13), ∀ a x, ((![v13] : Fin 1 → IVec S16 32) a x).toNat < S512.size a := fun v13 k1_hw6 => k1_hw6

def k1_chk7 (v15 : IVec S16 32) : Prop :=
  (∀ a x, ((![v15] : Fin 1 → IVec S16 32) a x).toNat < S512.size a)
theorem k1_idx7_inb : ∀ (v15 : IVec S16 32) (k1_hw7 : k1_chk7 v15), ∀ a x, ((![v15] : Fin 1 → IVec S16 32) a x).toNat < S512.size a := fun v15 k1_hw7 => k1_hw7

def k1_chk8 (v17 : IVec S16 32) : Prop :=
  (∀ a x, ((![v17] : Fin 1 → IVec S16 32) a x).toNat < S512.size a)
theorem k1_idx8_inb : ∀ (v17 : IVec S16 32) (k1_hw8 : k1_chk8 v17), ∀ a x, ((![v17] : Fin 1 → IVec S16 32) a x).toNat < S512.size a := fun v17 k1_hw8 => k1_hw8

def k1_chk9 (v19 : IVec S16 32) : Prop :=
  (∀ a x, ((![v19] : Fin 1 → IVec S16 32) a x).toNat < S512.size a)
theorem k1_idx9_inb : ∀ (v19 : IVec S16 32) (k1_hw9 : k1_chk9 v19), ∀ a x, ((![v19] : Fin 1 → IVec S16 32) a x).toNat < S512.size a := fun v19 k1_hw9 => k1_hw9

def k1_chk10 (v21 : IVec S16 32) : Prop :=
  (∀ a x, ((![v21] : Fin 1 → IVec S16 32) a x).toNat < S512.size a)
theorem k1_idx10_inb : ∀ (v21 : IVec S16 32) (k1_hw10 : k1_chk10 v21), ∀ a x, ((![v21] : Fin 1 → IVec S16 32) a x).toNat < S512.size a := fun v21 k1_hw10 => k1_hw10

def k1_chk11 (v23 : IVec S16 32) : Prop :=
  (∀ a x, ((![v23] : Fin 1 → IVec S16 32) a x).toNat < S512.size a)
theorem k1_idx11_inb : ∀ (v23 : IVec S16 32) (k1_hw11 : k1_chk11 v23), ∀ a x, ((![v23] : Fin 1 → IVec S16 32) a x).toNat < S512.size a := fun v23 k1_hw11 => k1_hw11

def k1_chk12 (v25 : IVec S16 32) : Prop :=
  (∀ a x, ((![v25] : Fin 1 → IVec S16 32) a x).toNat < S512.size a)
theorem k1_idx12_inb : ∀ (v25 : IVec S16 32) (k1_hw12 : k1_chk12 v25), ∀ a x, ((![v25] : Fin 1 → IVec S16 32) a x).toNat < S512.size a := fun v25 k1_hw12 => k1_hw12

def k1_chk13 (v27 : IVec S16 32) : Prop :=
  (∀ a x, ((![v27] : Fin 1 → IVec S16 32) a x).toNat < S512.size a)
theorem k1_idx13_inb : ∀ (v27 : IVec S16 32) (k1_hw13 : k1_chk13 v27), ∀ a x, ((![v27] : Fin 1 → IVec S16 32) a x).toNat < S512.size a := fun v27 k1_hw13 => k1_hw13

def k1_chk14 (v29 : IVec S16 32) : Prop :=
  (∀ a x, ((![v29] : Fin 1 → IVec S16 32) a x).toNat < S512.size a)
theorem k1_idx14_inb : ∀ (v29 : IVec S16 32) (k1_hw14 : k1_chk14 v29), ∀ a x, ((![v29] : Fin 1 → IVec S16 32) a x).toNat < S512.size a := fun v29 k1_hw14 => k1_hw14

def k1_chk15 (v31 : IVec S16 32) : Prop :=
  (∀ a x, ((![v31] : Fin 1 → IVec S16 32) a x).toNat < S512.size a)
theorem k1_idx15_inb : ∀ (v31 : IVec S16 32) (k1_hw15 : k1_chk15 v31), ∀ a x, ((![v31] : Fin 1 → IVec S16 32) a x).toNat < S512.size a := fun v31 k1_hw15 => k1_hw15
@[reducible] def k1_t1_loop : Scf.Loop 32 :=
  let c0_i32_0 : BitVec 32 := 0#32
  let c64_i32 : BitVec 32 := 64#32
  let v33 : BitVec 32 := Scalar.addi c0_i32_0 c64_i32
  let c1_i32 : BitVec 32 := 1#32
  ⟨c0_i32_0, v33, c1_i32⟩
def k1_off2 (k1_t1 : Fin k1_t1_loop.trips) (c0_i32_3 : BitVec 32) : Fin 1 → Nat :=
  let c0_i32_0 : BitVec 32 := 0#32
  let c1_i32 : BitVec 32 := 1#32
  let arg10 : BitVec 32 := Scf.iv c0_i32_0 c1_i32 k1_t1
  let c64_i32_2 : BitVec 32 := 64#32
  let v34 : BitVec 32 := Scalar.muli arg10 c64_i32_2
  let v35 : BitVec 32 := Scalar.addi v34 c0_i32_3
  let v36 : Index := Scalar.indexCast v35
  ![v36.toNat]

def k1_chk16 (v124 : IVec S16 32) : Prop :=
  (∀ a x, ((![v124] : Fin 1 → IVec S16 32) a x).toNat < S512.size a)
theorem k1_idx16_inb : ∀ (v124 : IVec S16 32) (k1_hw16 : k1_chk16 v124), ∀ a x, ((![v124] : Fin 1 → IVec S16 32) a x).toNat < S512.size a := fun v124 k1_hw16 => k1_hw16

def k1_chk17 (v131 : IVec S16 32) : Prop :=
  (∀ a x, ((![v131] : Fin 1 → IVec S16 32) a x).toNat < S512.size a)
theorem k1_idx17_inb : ∀ (v131 : IVec S16 32) (k1_hw17 : k1_chk17 v131), ∀ a x, ((![v131] : Fin 1 → IVec S16 32) a x).toNat < S512.size a := fun v131 k1_hw17 => k1_hw17

def k1_chk18 (v138 : IVec S16 32) : Prop :=
  (∀ a x, ((![v138] : Fin 1 → IVec S16 32) a x).toNat < S512.size a)
theorem k1_idx18_inb : ∀ (v138 : IVec S16 32) (k1_hw18 : k1_chk18 v138), ∀ a x, ((![v138] : Fin 1 → IVec S16 32) a x).toNat < S512.size a := fun v138 k1_hw18 => k1_hw18

def k1_chk19 (v145 : IVec S16 32) : Prop :=
  (∀ a x, ((![v145] : Fin 1 → IVec S16 32) a x).toNat < S512.size a)
theorem k1_idx19_inb : ∀ (v145 : IVec S16 32) (k1_hw19 : k1_chk19 v145), ∀ a x, ((![v145] : Fin 1 → IVec S16 32) a x).toNat < S512.size a := fun v145 k1_hw19 => k1_hw19

def k1_chk20 (v152 : IVec S16 32) : Prop :=
  (∀ a x, ((![v152] : Fin 1 → IVec S16 32) a x).toNat < S512.size a)
theorem k1_idx20_inb : ∀ (v152 : IVec S16 32) (k1_hw20 : k1_chk20 v152), ∀ a x, ((![v152] : Fin 1 → IVec S16 32) a x).toNat < S512.size a := fun v152 k1_hw20 => k1_hw20

def k1_chk21 (v157 : IVec S16 32) : Prop :=
  (∀ a x, ((![v157] : Fin 1 → IVec S16 32) a x).toNat < S512.size a)
theorem k1_idx21_inb : ∀ (v157 : IVec S16 32) (k1_hw21 : k1_chk21 v157), ∀ a x, ((![v157] : Fin 1 → IVec S16 32) a x).toNat < S512.size a := fun v157 k1_hw21 => k1_hw21

def k1_chk22 (v236 : IVec S16 32) : Prop :=
  (∀ a x, ((![v236] : Fin 1 → IVec S16 32) a x).toNat < S512.size a)
theorem k1_idx22_inb : ∀ (v236 : IVec S16 32) (k1_hw22 : k1_chk22 v236), ∀ a x, ((![v236] : Fin 1 → IVec S16 32) a x).toNat < S512.size a := fun v236 k1_hw22 => k1_hw22

def k1_chk23 (v243 : IVec S16 32) : Prop :=
  (∀ a x, ((![v243] : Fin 1 → IVec S16 32) a x).toNat < S512.size a)
theorem k1_idx23_inb : ∀ (v243 : IVec S16 32) (k1_hw23 : k1_chk23 v243), ∀ a x, ((![v243] : Fin 1 → IVec S16 32) a x).toNat < S512.size a := fun v243 k1_hw23 => k1_hw23

def k1_chk24 (v250 : IVec S16 32) : Prop :=
  (∀ a x, ((![v250] : Fin 1 → IVec S16 32) a x).toNat < S512.size a)
theorem k1_idx24_inb : ∀ (v250 : IVec S16 32) (k1_hw24 : k1_chk24 v250), ∀ a x, ((![v250] : Fin 1 → IVec S16 32) a x).toNat < S512.size a := fun v250 k1_hw24 => k1_hw24

def k1_chk25 (v257 : IVec S16 32) : Prop :=
  (∀ a x, ((![v257] : Fin 1 → IVec S16 32) a x).toNat < S512.size a)
theorem k1_idx25_inb : ∀ (v257 : IVec S16 32) (k1_hw25 : k1_chk25 v257), ∀ a x, ((![v257] : Fin 1 → IVec S16 32) a x).toNat < S512.size a := fun v257 k1_hw25 => k1_hw25

def k1_chk26 (v264 : IVec S16 32) : Prop :=
  (∀ a x, ((![v264] : Fin 1 → IVec S16 32) a x).toNat < S512.size a)
theorem k1_idx26_inb : ∀ (v264 : IVec S16 32) (k1_hw26 : k1_chk26 v264), ∀ a x, ((![v264] : Fin 1 → IVec S16 32) a x).toNat < S512.size a := fun v264 k1_hw26 => k1_hw26

def k1_chk27 (v269 : IVec S16 32) : Prop :=
  (∀ a x, ((![v269] : Fin 1 → IVec S16 32) a x).toNat < S512.size a)
theorem k1_idx27_inb : ∀ (v269 : IVec S16 32) (k1_hw27 : k1_chk27 v269), ∀ a x, ((![v269] : Fin 1 → IVec S16 32) a x).toNat < S512.size a := fun v269 k1_hw27 => k1_hw27

def k1_chk28 (v348 : IVec S16 32) : Prop :=
  (∀ a x, ((![v348] : Fin 1 → IVec S16 32) a x).toNat < S512.size a)
theorem k1_idx28_inb : ∀ (v348 : IVec S16 32) (k1_hw28 : k1_chk28 v348), ∀ a x, ((![v348] : Fin 1 → IVec S16 32) a x).toNat < S512.size a := fun v348 k1_hw28 => k1_hw28

def k1_chk29 (v355 : IVec S16 32) : Prop :=
  (∀ a x, ((![v355] : Fin 1 → IVec S16 32) a x).toNat < S512.size a)
theorem k1_idx29_inb : ∀ (v355 : IVec S16 32) (k1_hw29 : k1_chk29 v355), ∀ a x, ((![v355] : Fin 1 → IVec S16 32) a x).toNat < S512.size a := fun v355 k1_hw29 => k1_hw29

def k1_chk30 (v362 : IVec S16 32) : Prop :=
  (∀ a x, ((![v362] : Fin 1 → IVec S16 32) a x).toNat < S512.size a)
theorem k1_idx30_inb : ∀ (v362 : IVec S16 32) (k1_hw30 : k1_chk30 v362), ∀ a x, ((![v362] : Fin 1 → IVec S16 32) a x).toNat < S512.size a := fun v362 k1_hw30 => k1_hw30

def k1_chk31 (v369 : IVec S16 32) : Prop :=
  (∀ a x, ((![v369] : Fin 1 → IVec S16 32) a x).toNat < S512.size a)
theorem k1_idx31_inb : ∀ (v369 : IVec S16 32) (k1_hw31 : k1_chk31 v369), ∀ a x, ((![v369] : Fin 1 → IVec S16 32) a x).toNat < S512.size a := fun v369 k1_hw31 => k1_hw31

def k1_chk32 (v376 : IVec S16 32) : Prop :=
  (∀ a x, ((![v376] : Fin 1 → IVec S16 32) a x).toNat < S512.size a)
theorem k1_idx32_inb : ∀ (v376 : IVec S16 32) (k1_hw32 : k1_chk32 v376), ∀ a x, ((![v376] : Fin 1 → IVec S16 32) a x).toNat < S512.size a := fun v376 k1_hw32 => k1_hw32

def k1_chk33 (v381 : IVec S16 32) : Prop :=
  (∀ a x, ((![v381] : Fin 1 → IVec S16 32) a x).toNat < S512.size a)
theorem k1_idx33_inb : ∀ (v381 : IVec S16 32) (k1_hw33 : k1_chk33 v381), ∀ a x, ((![v381] : Fin 1 → IVec S16 32) a x).toNat < S512.size a := fun v381 k1_hw33 => k1_hw33

def k1_chk34 (v460 : IVec S16 32) : Prop :=
  (∀ a x, ((![v460] : Fin 1 → IVec S16 32) a x).toNat < S512.size a)
theorem k1_idx34_inb : ∀ (v460 : IVec S16 32) (k1_hw34 : k1_chk34 v460), ∀ a x, ((![v460] : Fin 1 → IVec S16 32) a x).toNat < S512.size a := fun v460 k1_hw34 => k1_hw34

def k1_chk35 (v467 : IVec S16 32) : Prop :=
  (∀ a x, ((![v467] : Fin 1 → IVec S16 32) a x).toNat < S512.size a)
theorem k1_idx35_inb : ∀ (v467 : IVec S16 32) (k1_hw35 : k1_chk35 v467), ∀ a x, ((![v467] : Fin 1 → IVec S16 32) a x).toNat < S512.size a := fun v467 k1_hw35 => k1_hw35

def k1_chk36 (v474 : IVec S16 32) : Prop :=
  (∀ a x, ((![v474] : Fin 1 → IVec S16 32) a x).toNat < S512.size a)
theorem k1_idx36_inb : ∀ (v474 : IVec S16 32) (k1_hw36 : k1_chk36 v474), ∀ a x, ((![v474] : Fin 1 → IVec S16 32) a x).toNat < S512.size a := fun v474 k1_hw36 => k1_hw36

def k1_chk37 (v481 : IVec S16 32) : Prop :=
  (∀ a x, ((![v481] : Fin 1 → IVec S16 32) a x).toNat < S512.size a)
theorem k1_idx37_inb : ∀ (v481 : IVec S16 32) (k1_hw37 : k1_chk37 v481), ∀ a x, ((![v481] : Fin 1 → IVec S16 32) a x).toNat < S512.size a := fun v481 k1_hw37 => k1_hw37

def k1_chk38 (v488 : IVec S16 32) : Prop :=
  (∀ a x, ((![v488] : Fin 1 → IVec S16 32) a x).toNat < S512.size a)
theorem k1_idx38_inb : ∀ (v488 : IVec S16 32) (k1_hw38 : k1_chk38 v488), ∀ a x, ((![v488] : Fin 1 → IVec S16 32) a x).toNat < S512.size a := fun v488 k1_hw38 => k1_hw38

def k1_chk39 (v493 : IVec S16 32) : Prop :=
  (∀ a x, ((![v493] : Fin 1 → IVec S16 32) a x).toNat < S512.size a)
theorem k1_idx39_inb : ∀ (v493 : IVec S16 32) (k1_hw39 : k1_chk39 v493), ∀ a x, ((![v493] : Fin 1 → IVec S16 32) a x).toNat < S512.size a := fun v493 k1_hw39 => k1_hw39
def k1_off3 (k1_t1 : Fin k1_t1_loop.trips) (c0_i32_163 : BitVec 32) : Fin 1 → Nat :=
  let c0_i32_0 : BitVec 32 := 0#32
  let c1_i32 : BitVec 32 := 1#32
  let arg10 : BitVec 32 := Scf.iv c0_i32_0 c1_i32 k1_t1
  let c64_i32_2 : BitVec 32 := 64#32
  let v34 : BitVec 32 := Scalar.muli arg10 c64_i32_2
  let v495 : BitVec 32 := Scalar.addi v34 c0_i32_163
  let v496 : Index := Scalar.indexCast v495
  ![v496.toNat]
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
abbrev grid2 : Pipeline.Grid := .none

abbrev stage2_0 : Fin 1 → Memref sig .tc .vmem S64x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1000x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x1000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x2048 : Shape := ⟨2, ![64, 2048]⟩
abbrev S512x1 : Shape := ⟨2, ![512, 1]⟩
abbrev S1000x2048 : Shape := ⟨2, ![1000, 2048]⟩
abbrev S1000 : Shape := ⟨1, ![1000]⟩
abbrev S131072x1 : Shape := ⟨2, ![131072, 1]⟩
abbrev S_ : Shape := ⟨0, ![]⟩
abbrev S131072 : Shape := ⟨1, ![131072]⟩
abbrev S512 : Shape := ⟨1, ![512]⟩
abbrev S1x512 : Shape := ⟨2, ![1, 512]⟩
abbrev S131072x512 : Shape := ⟨2, ![131072, 512]⟩
abbrev S2048x1000 : Shape := ⟨2, ![2048, 1000]⟩
abbrev S64x1000 : Shape := ⟨2, ![64, 1000]⟩
abbrev S1x1000 : Shape := ⟨2, ![1, 1000]⟩

abbrev nBuf : Space → Nat
  | .hbm => 43
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S512x1, .f32⟩
  | .hbm, ⟨2, _⟩ => ⟨S1000x2048, .f32⟩
  | .hbm, ⟨3, _⟩ => ⟨S1000, .f32⟩
  | .hbm, ⟨4, _⟩ => ⟨S131072x1, .f32⟩
  | .hbm, ⟨5, _⟩ => ⟨S131072x1, .f32⟩
  | .hbm, ⟨6, _⟩ => ⟨S_, .f32⟩
  | .hbm, ⟨7, _⟩ => ⟨S131072, .f32⟩
  | .hbm, ⟨8, _⟩ => ⟨S131072x1, .f32⟩
  | .hbm, ⟨9, _⟩ => ⟨S512x1, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S131072x512, .f32⟩
  | .hbm, ⟨14, _⟩ => ⟨S_, .f32⟩
  | .hbm, ⟨15, _⟩ => ⟨S131072x512, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S1x512, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S131072x512, .f32⟩
  | .hbm, ⟨24, _⟩ => ⟨S131072x512, .f32⟩
  | .hbm, ⟨25, _⟩ => ⟨S131072x512, .i32⟩
  | .hbm, ⟨26, _⟩ => ⟨S_, .f32⟩
  | .hbm, ⟨27, _⟩ => ⟨S_, .i32⟩
  | .hbm, ⟨28, _⟩ => ⟨S131072, .f32⟩
  | .hbm, ⟨29, _⟩ => ⟨S131072, .i32⟩
  | .hbm, ⟨30, _⟩ => ⟨S131072x1, .i32⟩
  | .hbm, ⟨31, _⟩ => ⟨S1x512, .i32⟩
  | .hbm, ⟨32, _⟩ => ⟨S131072x512, .i32⟩
  | .hbm, ⟨33, _⟩ => ⟨S131072x512, .i32⟩
  | .hbm, ⟨34, _⟩ => ⟨S131072x512, .i1⟩
  | .hbm, ⟨35, _⟩ => ⟨S131072x512, .f32⟩
  | .hbm, ⟨36, _⟩ => ⟨S131072x1, .f32⟩
  | .hbm, ⟨37, _⟩ => ⟨S64x2048, .f32⟩
  | .hbm, ⟨38, _⟩ => ⟨S2048x1000, .f32⟩
  | .hbm, ⟨39, _⟩ => ⟨S64x1000, .f32⟩
  | .hbm, ⟨40, _⟩ => ⟨S1x1000, .f32⟩
  | .hbm, ⟨41, _⟩ => ⟨S64x1000, .f32⟩
  | .hbm, ⟨42, _⟩ => ⟨S64x1000, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v17 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Proof.Search.lean ====
/- The search of the vector subcore kernel, as functions: of one entry, and of a vector of 16 entries.

   A table `mid` of 512 thresholds and a table `srt` of 512 levels are given. The search of an entry `x` first counts,
   in steps of 32, which of the 15 thresholds 31, 63, …, 479 lie below `x`; then it halves: at the position `p`, with
   the steps 16, 8, 4, 2, 1, it moves on by the step when the threshold before the new position lies below `x`. The
   level at the position reached is the entry's quantised value. -/
module

public import proofs.«01_k».proof.Defs

@[expose] public section

noncomputable section

namespace Cert.Proof.Quantize

open Cert.KernelIdeal Idealize.ShloMosaic

variable {F : FTy → Type} [FloatOps F]

/-- The index of a table of 512 entries that a word names. -/
def ix (b : BitVec 32) : S512.Idx := fun a => ⟨b.toNat % 512, by
  have : a = 0 := Subsingleton.elim _ _
  subst this; exact Nat.mod_lt _ (by decide)⟩

/-- The gather of 16 entries of a table at the words of `v`. -/
def gath (M : Vec F S512 .f32) (v : IVec S16 32) : Vec F S16 .f32 := fun i => M (ix (v i))

/-! ## One entry -/

/-- The position after the first `n` of the 15 coarse steps. -/
def coarse (M : Vec F S512 .f32) (x : F .f32) : ℕ → BitVec 32
  | 0 => 0#32
  | n + 1 => coarse M x n + (if FloatOps.cmpf .olt (M (ix (BitVec.ofNat 32 (32 * n + 31)))) x = 1#1 then 32#32 else 0#32)

/-- One halving step from the position `p`: the step is `w`, the word before it `u`. -/
def fine (M : Vec F S512 .f32) (x : F .f32) (u w p : BitVec 32) : BitVec 32 :=
  if FloatOps.cmpf .olt (M (ix (p + u))) x = 1#1 then p + w else p

/-- The position the search of `x` ends at. -/
def place (M : Vec F S512 .f32) (x : F .f32) : BitVec 32 :=
  fine M x 0 1 (fine M x 1 2 (fine M x 3 4 (fine M x 7 8 (fine M x 15 16 (coarse M x 15)))))

/-- The quantised value of `x`. -/
def quant (M S : Vec F S512 .f32) (x : F .f32) : F .f32 := S (ix (place M x))

/-! ## Sixteen entries -/

/-- The positions of 16 entries after the first `n` coarse steps. -/
def coarseV (M : Vec F S512 .f32) (x : Vec F S16 .f32) : ℕ → IVec S16 32
  | 0 => broadcast S16 0#32
  | n + 1 => addi (coarseV M x n) (select (cmpf .olt (gath M (broadcast S16 (BitVec.ofNat 32 (32 * n + 31)))) x) (broadcast S16 32#32) (broadcast S16 0#32))

/-- One halving step of 16 entries. -/
def fineV (M : Vec F S512 .f32) (x : Vec F S16 .f32) (u w : BitVec 32) (p : IVec S16 32) : IVec S16 32 :=
  select (cmpf .olt (gath M (addi p (broadcast S16 u))) x) (addi p (broadcast S16 w)) p

/-- The positions the search of 16 entries ends at. -/
def placeV (M : Vec F S512 .f32) (x : Vec F S16 .f32) : IVec S16 32 :=
  fineV M x 0 1 (fineV M x 1 2 (fineV M x 3 4 (fineV M x 7 8 (fineV M x 15 16 (coarseV M x 15)))))

/-- The quantised values of 16 entries. -/
def quantV (M S : Vec F S512 .f32) (x : Vec F S16 .f32) : Vec F S16 .f32 := gath S (placeV M x)

theorem coarseV_apply (M : Vec F S512 .f32) (x : Vec F S16 .f32) (n : ℕ) (i : S16.Idx) :
    coarseV M x n i = coarse M (x i) n := by
  induction n with
  | zero => rfl
  | succ n ih =>
    show coarseV M x n i + _ = coarse M (x i) n + _
    rw [ih]; rfl

theorem fineV_apply (M : Vec F S512 .f32) (x : Vec F S16 .f32) (u w : BitVec 32) (p : IVec S16 32) (i : S16.Idx) :
    fineV M x u w p i = fine M (x i) u w (p i) := rfl

/-- Each of 16 entries is quantised by itself. -/
theorem quantV_apply (M S : Vec F S512 .f32) (x : Vec F S16 .f32) (i : S16.Idx) :
    quantV M S x i = quant M S (x i) := by
  show S (ix (placeV M x i)) = S (ix (place M (x i)))
  unfold placeV place
  simp only [fineV_apply, coarseV_apply]

/-! ## The positions stay inside the table -/

/-- Every word of `p` is at most `n`. -/
def Upto (n : ℕ) (p : IVec S16 32) : Prop := ∀ i, (p i).toNat ≤ n

theorem coarse_le (M : Vec F S512 .f32) (x : F .f32) (n : ℕ) (hn : n ≤ 15) : (coarse M x n).toNat ≤ 32 * n := by
  induction n with
  | zero => simp [coarse]
  | succ n ih =>
    have h := ih (by omega)
    rw [coarse, BitVec.toNat_add]
    split
    · rw [show (32#32).toNat = 32 from rfl]; omega
    · rw [show (0#32).toNat = 0 from rfl]; omega

theorem upto_coarseV (M : Vec F S512 .f32) (x : Vec F S16 .f32) : Upto 480 (coarseV M x 15) := fun i => by
  rw [coarseV_apply]; exact coarse_le M (x i) 15 le_rfl

theorem fine_le (M : Vec F S512 .f32) (x : F .f32) (u w p : BitVec 32) {n : ℕ} (h : p.toNat ≤ n) :
    (fine M x u w p).toNat ≤ n + w.toNat := by
  unfold fine
  split
  · rw [BitVec.toNat_add]; exact (Nat.mod_le _ _).trans (by omega)
  · omega

theorem Upto.fineV {n : ℕ} {p : IVec S16 32} (h : Upto n p) (M : Vec F S512 .f32) (x : Vec F S16 .f32) (u w : BitVec 32) :
    Upto (n + w.toNat) (fineV M x u w p) := fun i => fine_le M (x i) u w (p i) (h i)

/-- Words at most `n`, a step of which stays below 512, index the table after the step. -/
theorem Upto.inb {n : ℕ} {p : IVec S16 32} (h : Upto n p) (u : BitVec 32) (hu : n + u.toNat < 512) :
    ∀ (a : Fin 1) x, ((![addi p (broadcast S16 u)] : Fin 1 → IVec S16 32) a x).toNat < S512.size a := by
  intro a x
  have : a = 0 := Subsingleton.elim _ _
  subst this
  show (p x + u).toNat < 512
  rw [BitVec.toNat_add]
  exact lt_of_le_of_lt (Nat.mod_le _ _) (by have := h x; omega)

theorem Upto.inb' {n : ℕ} {p : IVec S16 32} (h : Upto n p) (hu : n < 512) :
    ∀ (a : Fin 1) x, ((![p] : Fin 1 → IVec S16 32) a x).toNat < S512.size a := by
  intro a x
  have : a = 0 := Subsingleton.elim _ _
  subst this
  exact lt_of_le_of_lt (h x) hu

theorem upto_broadcast (b : BitVec 32) : Upto b.toNat (broadcast S16 b) := fun _ => le_rfl

/-- The gather of a table at words inside it is the load the kernel makes. -/
theorem loadIdx_eq (M : Vec F S512 .f32) (v : IVec S16 32) (h : ∀ a x, ((![v] : Fin 1 → IVec S16 32) a x).toNat < S512.size a) :
    loadIdx M ![v] h = gath M v := by
  funext x
  show M _ = M _
  congr 1
  funext a
  have : a = 0 := Subsingleton.elim _ _
  subst this
  apply Fin.ext
  show (v x).toNat = (v x).toNat % 512
  exact (Nat.mod_eq_of_lt (h 0 x)).symm

end Cert.Proof.Quantize

end
-- ==== Proof.Setup.lean ====
/- The launch of the kernel program: the names the proofs use, the resources they own, and the memories they speak of. -/
module

public import proofs.«01_k».proof.Defs
public import proofs.«01_k».proof.Proof.Search
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Pipeline.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Quantize

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two tensor-core pipelines' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers the vector subcores share -/

/-- The buffer of all entries, of the sorted levels, of the thresholds, of the quantised entries. -/
abbrev xLoc (d : Dev nD) : Loc nD τ sig := (SparseCore.T d).loc main_v8
abbrev sLoc (d : Dev nD) : Loc nD τ sig := (SparseCore.T d).loc main_v5
abbrev mLoc (d : Dev nD) : Loc nD τ sig := (SparseCore.T d).loc main_v7
abbrev oLoc (d : Dev nD) : Loc nD τ sig := (SparseCore.T d).loc main_v9

/-- The same buffers as a vector subcore names them, and its four scratch buffers: its entries, the levels, the
    thresholds, its quantised entries. -/
abbrev xA : Memref sig .scVector .hbm S131072 .f32 := Memref.whole main_v8_scv
abbrev sA : Memref sig .scVector .hbm S512 .f32 := Memref.whole main_v5_scv
abbrev mA : Memref sig .scVector .hbm S512 .f32 := Memref.whole main_v7_scv
abbrev oA : Memref sig .scVector .hbm S131072 .f32 := Memref.whole main_v9_scv
abbrev xW : Memref sig .scVector .vmem S4096 .f32 := Memref.whole cc1_scratch0
abbrev sW : Memref sig .scVector .vmem S512 .f32 := Memref.whole cc1_scratch1
abbrev mW : Memref sig .scVector .vmem S512 .f32 := Memref.whole cc1_scratch2
abbrev qW : Memref sig .scVector .vmem S4096 .f32 := Memref.whole cc1_scratch3

/-! ## One vector subcore's names -/

/-- The core and the subcore of a place of the launch grid, and its thread. -/
abbrev cV (L : grid1.Coords) : Fin τ.nSC := (L 0).castLE hcore1
abbrev jV (L : grid1.Coords) : Fin τ.nSub := (L 1).castLE hsub1
abbrev tV (d : Dev nD) (L : grid1.Coords) : Thread nD τ := V d (cV L) (jV L)

abbrev xWLoc (d : Dev nD) (L : grid1.Coords) : Loc nD τ sig := (tV d L).loc cc1_scratch0
abbrev sWLoc (d : Dev nD) (L : grid1.Coords) : Loc nD τ sig := (tV d L).loc cc1_scratch1
abbrev mWLoc (d : Dev nD) (L : grid1.Coords) : Loc nD τ sig := (tV d L).loc cc1_scratch2
abbrev qWLoc (d : Dev nD) (L : grid1.Coords) : Loc nD τ sig := (tV d L).loc cc1_scratch3

/-- The block of entries a subcore reads, and the block of quantised entries it writes. -/
abbrev xK (L : grid1.Coords) : Memref sig .scVector .hbm S4096 .f32 :=
  xA.slice (Rect.unit (s := S131072) (k1_off1 L) S4096.size (k1_off1_inb L)) (fun _ => rfl)
abbrev oK (L : grid1.Coords) : Memref sig .scVector .hbm S4096 .f32 :=
  oA.slice (Rect.unit (s := S131072) (k1_off4 L) S4096.size (k1_off4_inb L)) (fun _ => rfl)

/-- The indices of that block. -/
abbrev xSet (L : grid1.Coords) : Finset S131072.Idx := (xK L).view.set
abbrev oSet (L : grid1.Coords) : Finset S131072.Idx := (oK L).view.set

end Cert.Proof.Quantize

end
-- ==== Proof.Bodies.lean ====
/- The bodies of the two tensor-core kernels: from their staging buffers held whole, each runs to its return, and its
   result's staging buffer holds a stated function of what the others hold. -/
module

public import proofs.«01_k».proof.Proof.Setup
public import Idealize.ShloMosaic.Lib.Pipeline.RegionsLoop
public import Idealize.ShloMosaic.Lib.VecWindow

@[expose] public section

set_option maxRecDepth 16384

noncomputable section

namespace Cert.Proof.Quantize

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The staging buffers of the first kernel: the centers down a column, the centers along a row, the table. -/
abbrev pC : Memref sig .tc .vmem S512x128 .f32 := Memref.whole cc0_stg0_0
abbrev pR : Memref sig .tc .vmem S8x512 .f32 := Memref.whole cc0_stg1_0
abbrev pT : Memref sig .tc .vmem S8x512 .f32 := Memref.whole cc0_stg2_0

/-- The staging buffers of the last kernel: the entries, the weights, the bias, the product. -/
abbrev mE : Memref sig .tc .vmem S64x2048 .f32 := Memref.whole cc2_stg0_0
abbrev mK : Memref sig .tc .vmem S1000x2048 .f32 := Memref.whole cc2_stg1_0
abbrev mB : Memref sig .tc .vmem S8x1000 .f32 := Memref.whole cc2_stg2_0
abbrev mP : Memref sig .tc .vmem S64x1000 .f32 := Memref.whole cc2_stg3_0

/-! ## What the kernels leave -/

/-- The table the first kernel leaves, from the centers down a column and along a row: four rows of the sorted centers,
    then four rows of the thresholds. -/
def prepOut (A : S512x128.Idx → Elt F .f32) (B : S8x512.Idx → Elt F .f32) : S8x512.Idx → Elt F .f32 :=
  k0_pay1 (fun i => A ((Rect.unit (s := S512x128) ![0, 0] S512x1.size inb_S512x128_S512x1_0_0).emb i))
    (fun i => B ((Rect.unit (s := S8x512) ![0, 0] S1x512.size inb_S8x512_S1x512_0_0).emb i))

/-- The product the last kernel leaves, from the entries, the weights, and the bias along a row. -/
def mmOut (A : S64x2048.Idx → Elt F .f32) (W : S1000x2048.Idx → Elt F .f32) (B : S8x1000.Idx → Elt F .f32) :
    S64x1000.Idx → Elt F .f32 :=
  k2_pay1 A W (fun i => B ((Rect.unit (s := S8x1000) ![0, 0] S1x1000.size inb_S8x1000_S1x1000_0_0).emb i))

/-- A whole buffer stored over in one piece, at the origin and of the buffer's shape, holds the piece. -/
theorem writes_over {b : Ref sig .tc} {off : Fin b.ty.shape.rank → ℕ} (h0 : off = fun _ => 0)
    (inb : ∀ a, off a + b.ty.shape.size a ≤ b.ty.shape.size a) (o : b.ty.Contents (Elt F))
    (w : (Rect.unit off b.ty.shape.size inb).shape.Idx → Elt F b.ty.elt) :
    (Memref.whole b).view.writes (Elt F) o [⟨Rect.unit (s := b.ty.shape) off b.ty.shape.size inb, w⟩] = w := by
  subst h0
  funext y
  exact View.read_writes_cons_hit_of_coords (v := (Memref.whole b).view) (Val := Elt F) (f := o)
    (Rect.unit (s := b.ty.shape) (fun _ => 0) b.ty.shape.size inb) w [] y y (fun a => by show (y a).val = 0 + 1 * (y a).val; omega)

/-- The first kernel's body. -/
theorem prep_body (d : Dev nD) (A : Buf (Elt F) (pC.view.loc (d : Thread nD τ))) (B : Buf (Elt F) (pR.view.loc (d : Thread nD τ))) (o : Buf (Elt F) (pT.view.loc (d : Thread nD τ)))
    (Q : PUnit → sProp 𝕄) :
    iprop((pC.view.loc (d : Thread nD τ) ↦{fullShare} A) ∗ (pR.view.loc (d : Thread nD τ) ↦{fullShare} B) ∗ (pT.view.loc (d : Thread nD τ) ↦{fullShare} o)
        ∗ (((pC.view.loc (d : Thread nD τ) ↦{fullShare} A) ∗ (pR.view.loc (d : Thread nD τ) ↦{fullShare} B) ∗ (pT.view.loc (d : Thread nD τ) ↦{fullShare} prepOut A B)) -∗ Q ⟨⟩))
      ⊢ wp frame (wpE (defs₀ (F := F)) 𝒱₀ (d : Thread nD τ) none) Set.univ
          (cc0__prep_body pC (Memref.isWhole_whole _) pR (Memref.isWhole_whole _)
            pT (Memref.isWhole_whole _)) Q := by
  rw [cc0__prep_body_eq_skeleton]
  unfold cc0__prep_body_skel
  rw [k0_part1_eq_skeleton]
  unfold k0_part1_skel
  iintro ⟨HA, HB, Ho, Hk⟩
  sl_exec
  sl_step
  have hw : pT.view.writes (Elt F) o
      [⟨Rect.unit (s := S8x512) ![0, 0] S8x512.size inb_S8x512_S8x512_0_0,
          k0_pay1 (View.readAt (Elt F) pC.view (Rect.unit (s := S512x128) ![0, 0] S512x1.size inb_S512x128_S512x1_0_0).toLoadRect A)
            (View.readAt (Elt F) pR.view (Rect.unit (s := S8x512) ![0, 0] S1x512.size inb_S8x512_S1x512_0_0).toLoadRect B)⟩] = prepOut A B :=
    writes_over (b := cc0_stg2_0) (by decide) _ o _
  rw [hw]
  iapply Hk
  isplitl [HA]; · iexact HA
  isplitl [HB]; · iexact HB
  iexact Ho

theorem mm_body (d : Dev nD) (A : Buf (Elt F) (mE.view.loc (d : Thread nD τ))) (W : Buf (Elt F) (mK.view.loc (d : Thread nD τ))) (B : Buf (Elt F) (mB.view.loc (d : Thread nD τ)))
    (o : Buf (Elt F) (mP.view.loc (d : Thread nD τ))) (Q : PUnit → sProp 𝕄) :
    iprop((mE.view.loc (d : Thread nD τ) ↦{fullShare} A) ∗ (mK.view.loc (d : Thread nD τ) ↦{fullShare} W) ∗ (mB.view.loc (d : Thread nD τ) ↦{fullShare} B) ∗ (mP.view.loc (d : Thread nD τ) ↦{fullShare} o)
        ∗ (((mE.view.loc (d : Thread nD τ) ↦{fullShare} A) ∗ (mK.view.loc (d : Thread nD τ) ↦{fullShare} W) ∗ (mB.view.loc (d : Thread nD τ) ↦{fullShare} B)
            ∗ (mP.view.loc (d : Thread nD τ) ↦{fullShare} mmOut A W B)) -∗ Q ⟨⟩))
      ⊢ wp frame (wpE (defs₀ (F := F)) 𝒱₀ (d : Thread nD τ) none) Set.univ
          (cc2__mm_body mE (Memref.isWhole_whole _) mK (Memref.isWhole_whole _)
            mB (Memref.isWhole_whole _) mP (Memref.isWhole_whole _)) Q := by
  rw [cc2__mm_body_eq_skeleton]
  unfold cc2__mm_body_skel
  iintro ⟨HA, HW, HB, Ho, Hk⟩
  sl_exec
  sl_step
  have hA : View.readAt (Elt F) mE.view (Rect.unit (s := S64x2048) ![0, 0] S64x2048.size inb_S64x2048_S64x2048_0_0).toLoadRect A = A :=
    View.readAt_full (Val := Elt F) mE.view A _
  have hW : View.readAt (Elt F) mK.view (Rect.unit (s := S1000x2048) ![0, 0] S1000x2048.size inb_S1000x2048_S1000x2048_0_0).toLoadRect W = W :=
    View.readAt_full (Val := Elt F) mK.view W _
  rw [hA, hW]
  have hw : mP.view.writes (Elt F) o
      [⟨Rect.unit (s := S64x1000) ![0, 0] S64x1000.size inb_S64x1000_S64x1000_0_0,
          k2_pay1 A W (View.readAt (Elt F) mB.view (Rect.unit (s := S8x1000) ![0, 0] S1x1000.size inb_S8x1000_S1x1000_0_0).toLoadRect B)⟩] = mmOut A W B :=
    writes_over (b := cc2_stg3_0) (by decide) _ o _
  rw [hw]
  iapply Hk
  isplitl [HA]; · iexact HA
  isplitl [HW]; · iexact HW
  isplitl [HB]; · iexact HB
  iexact Ho

end Cert.Proof.Quantize

end
-- ==== Proof.Region.lean ====
/- A tensor-core kernel among the host operations: entered with every unscoped buffer held at stated contents, it
   leaves them held at stated contents, the arrays it works on being the only ones that may differ; what the tensor
   core still owes the SparseCores passes through. Stated once, for either kernel. -/
module

public import proofs.«01_k».proof.Proof.Bodies

@[expose] public section

set_option maxRecDepth 16384

noncomputable section

namespace Cert.Proof.Quantize

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F]

local notation "𝕄" => MT nD τ sig (HIx 1) (Elt F) ℕ UU ℕ

/-- The buffers of the device that outlive the kernels. -/
def kept : Finset (DevRef τ sig) := (StableHlo.tcRefs τ sig).filter fun b => ¬ b.isScoped

/-- A tensor core's unscoped buffers at a valuation, as a set of buffers held. -/
theorem unscoped_eq_held (d : Dev nD) (v : Valuation τ sig (Elt F)) :
    (unscopedBufs d (fun b => v (Proc.devRef .tc b)) : sProp 𝕄) = StableHlo.held (d : Thread nD τ) kept v := by
  unfold unscopedBufs StableHlo.held kept StableHlo.tcRefs
  rw [Finset.filter_map, bigSep_map]
  rfl

/-- No pipeline reads a table before its windows. -/
abbrev adm : (p : Fin 2) → (pcfgs (F := F) p).Adm := fun p => (cfgs p).toPCfg_adm

/-- The waits the tensor core may have recorded before the SparseCore call of number `n`. -/
def within (d : Dev nD) (n : ℕ) : Set (SemLoc sig × HIx 1) := {p | (K (F := F)).lev (T d, p.1) p.2 ≤ 8 * n}

/-- What the tensor core owes the SparseCores before the call of number `n`. -/
def dues (d : Dev nD) (n : ℕ) : sProp 𝕄 :=
  iprop(∃ W, ⌜(K (F := F)).WBelow (T d) W (8 * n)⌝ ∗ owes (T d) ((K (F := F)).Otc d n) W)

/-- It owes nothing at the index the pipelines' copies use. -/
theorem otc_none (d : Dev nD) (n : ℕ) (g : GSem nD τ sig) : (K (F := F)).Otc d n g (none : HIx 1) = 0 := by
  by_contra h
  have h1 := (K (F := F)).lev_of_Otc_pos (N := 1) (Nat.pos_of_ne_zero h)
  exact absurd h1 (by rw [show (K (F := F)).lev g (none : HIx 1) = 0 from rfl]; omega)

variable (dats : (p : Fin 2) → (c : Dev nD) → Dat τ (Elt F) (HIx 1) ℕ UU ℕ (Pipeline.pin (pcfgs (F := F)) adm p) c)

theorem owesAt_intro (p : Fin 2) (c : Dev nD) (n : ℕ) (t)
    (ho : (dats p c).owed t = (K (F := F)).Otc c n) (hr : (dats p c).recorded t = within (F := F) c n) :
    dues c n ⊢ ((dats p c).owesAt (none : HIx 1) t : sProp 𝕄) := by
  unfold dues Pipeline.Dat.owesAt Pipeline.owesWithin Pipeline.Dat.bound
  rw [ho, hr]
  iintro ⟨%W, %hW, H⟩
  iexists W
  isplitr
  · ipureintro; exact fun q hq => Or.inl (hW q hq)
  iexact H

theorem owesAt_elim (p : Fin 2) (c : Dev nD) (n : ℕ) (t)
    (ho : (dats p c).owed t = (K (F := F)).Otc c n) (hr : (dats p c).recorded t = within (F := F) c n) :
    ((dats p c).owesAt (none : HIx 1) t : sProp 𝕄) ⊢ dues c n := by
  unfold dues Pipeline.Dat.owesAt Pipeline.owesWithin Pipeline.Dat.bound
  rw [ho, hr]
  iintro ⟨%W, %hW, H⟩
  iexists W
  isplitr
  · ipureintro
    intro q hq
    rcases hW hq with h | ⟨w, s, rfl⟩
    · exact h
    · exact Nat.zero_le _
  iexact H

theorem prefHeld_eq (p : Fin 2) (c : Dev nD) :
    (Pipeline.prefHeld (pcfgs (F := F) p).pre c (fun _ => fullShare) (adm (F := F) p).1 : sProp 𝕄) = iprop(emp) := by
  unfold Pipeline.prefHeld
  rw [show (Finset.univ : Finset (Fin (pcfgs (F := F) p).pre.K)) = ∅ from rfl, BI.bigSep_empty]
  rfl

/-- A kernel as a stretch of the main program, before the SparseCore call of number `n` or after it. -/
def region (p : Fin 2) (n : ℕ) (v v' : Dev nD → Valuation τ sig (Elt F)) (hl : Pipeline.LaunchFacts (nD := nD) (τ := τ) cfgs p)
    (hA : ∀ c w, (dats p c).A w = v c (Proc.devRef .tc (Pipeline.arrRef (cfgs p).spec w)))
    (hΦ : ∀ c t, (dats p c).Φ t = Pipeline.scopedRest (cfgs p).spec c)
    (hq : ∀ c w, (dats p c).share w = fullShare)
    (ho : ∀ c t, (dats p c).owed t = (K (F := F)).Otc c n)
    (hr : ∀ c t, (dats p c).recorded t = within (F := F) c n)
    (hbody : ∀ c, BodyObligation (dats p c) (defs₀ (F := F)) 𝒱₀ (none : HIx 1) Set.univ)
    (hF : ∀ c w, (dats p c).arrAt w (cfgs p).N = v' c (Proc.devRef .tc (Pipeline.arrRef (cfgs p).spec w)))
    (hrest : ∀ c b, b ∉ Finset.univ.image (Pipeline.arrRef (cfgs p).spec) → v' c (Proc.devRef .tc b) = v c (Proc.devRef .tc b)) :
    Pipeline.RegionSeg (pcfgs (F := F)) adm dats (none : HIx 1) (defs₀ (F := F)) 𝒱₀ (K (F := F)).L (K (F := F)).lev p where
  win := hl.win.to₀
  block_pos := hl.block_pos
  stage_whole := hl.stage_whole
  K := PEmpty
  osem k := k.elim
  ho := Pipeline.OwnSemFacts.none _
  hbody c := (hbody c).loose
  hwaits c := Pipeline.cellsWaits_intro (Pipeline.pin pcfgs adm) dats none p c fun w s t => by
    rw [ho]; exact (K (F := F)).mayWait_none (thr := (c : Thread nD τ)) _ (otc_none c n)
  pre c := iprop(StableHlo.held (c : Thread nD τ) kept (v c) ∗ dues c n)
  post c := iprop(StableHlo.held (c : Thread nD τ) kept (v' c) ∗ dues c n)
  X _ := BI.emp
  Y _ := BI.emp
  Z c := Pipeline.unscopedRest (cfgs p).spec c (fun b => v c (Proc.devRef .tc b))
  hentry c := by
    have hsplit := Pipeline.arrays_of_unscopedBufs (p := p) (pcfgs (F := F)) adm dats hl.win hl.arr_whole c (hq c)
      (fun b => v c (Proc.devRef .tc b)) (hA c)
    rw [Pipeline.ownSems0_none, ← unscoped_eq_held, prefHeld_eq]
    iintro ⟨⟨Hb, HO⟩, -, -⟩
    ihave H := hsplit $$ Hb
    icases H with ⟨Ha, Hz⟩
    ihave HO := (owesAt_intro dats p c n 0 (ho c _) (hr c _)) $$ HO
    imodintro
    isplitl [Ha]; · iexact Ha
    isplitr; · iempintro
    isplitl [HO]; · iexact HO
    isplitr; · iempintro
    iexact Hz
  hin c := by
    rw [hΦ]
    iintro ⟨-, -, H⟩; iexact H
  hout c := by
    rw [hΦ, Pipeline.ownSems0_none]
    iintro H
    isplitr; · iempintro
    isplitr; · iempintro
    iexact H
  hexit c := by
    have hjoin := Pipeline.unscopedBufs_of_arrays (p := p) (pcfgs (F := F)) adm (Ix := HIx 1) (Name := ℕ) (U := UU) (Lvl := ℕ) hl.win hl.arr_whole c
      dats (hq c) (fun b => v c (Proc.devRef .tc b)) (fun b => v' c (Proc.devRef .tc b)) ((dats p c).arrAt · (cfgs p).N) (hF c) (hrest c)
    rw [← unscoped_eq_held]
    iintro ⟨Ha, HO, -, Hz⟩
    ihave HO := (owesAt_elim dats p c n _ (ho c _) (hr c _)) $$ HO
    ihave H := hjoin $$ [Ha Hz]
    · isplitl [Ha] <;> iassumption
    imodintro
    isplitl [H] <;> iassumption

end Cert.Proof.Quantize

end
-- ==== Proof.Regions.lean ====
/- The two tensor-core kernels as stretches of the main program. -/
module

public import proofs.«01_k».proof.Proof.Region
public import Idealize.ShloMosaic.Lib.Pipeline.ValueKit.Geometry

@[expose] public section

set_option maxRecDepth 16384

noncomputable section

namespace Cert.Proof.Quantize

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F]

local notation "𝕄" => MT nD τ sig (HIx 1) (Elt F) ℕ UU ℕ

/-- The name of one of the main program's arrays among the device's buffers. -/
abbrev nm (b : Ref sig .tc) : DevRef τ sig := Proc.devRef .tc b

/-- The preparation kernel entered at `v`: its two operands stay, its result is the sorted centers and thresholds. -/
def datPrep (n : ℕ) (v : Dev nD → Valuation τ sig (Elt F)) (c : Dev nD) : Dat τ (Elt F) (HIx 1) ℕ UU ℕ cfg0 c where
  A w := v c (nm (Pipeline.arrRef spec0 w))
  after w _ := match w with
    | ⟨0, _⟩ => v c (nm main_v0)
    | ⟨1, _⟩ => v c (nm main_v2)
    | ⟨2, _⟩ => prepOut (v c (nm main_v0)) (v c (nm main_v2))
  Φ _ := Pipeline.scopedRest spec0 c
  q _ := fullShare
  owed _ := (K (F := F)).Otc c n
  recorded _ := within (F := F) c n

/-- The product kernel entered at `v`: its three operands stay, its result is the product with the bias added. -/
def datMm (n : ℕ) (v : Dev nD → Valuation τ sig (Elt F)) (c : Dev nD) : Dat τ (Elt F) (HIx 1) ℕ UU ℕ cfg2 c where
  A w := v c (nm (Pipeline.arrRef spec2 w))
  after w _ := match w with
    | ⟨0, _⟩ => v c (nm main_v10)
    | ⟨1, _⟩ => v c (nm main_arg2)
    | ⟨2, _⟩ => v c (nm main_v12)
    | ⟨3, _⟩ => mmOut (v c (nm main_v10)) (v c (nm main_arg2)) (v c (nm main_v12))
  Φ _ := Pipeline.scopedRest spec2 c
  q _ := fullShare
  owed _ := (K (F := F)).Otc c n
  recorded _ := within (F := F) c n

/-- Both kernels entered at `v`. -/
def dats (n : ℕ) (v : Dev nD → Valuation τ sig (Elt F)) :
    (p : Fin 2) → (c : Dev nD) → Dat τ (Elt F) (HIx 1) ℕ UU ℕ (Pipeline.pin (pcfgs (F := F)) adm p) c
  | ⟨0, _⟩ => fun c => datPrep n v c
  | ⟨1, _⟩ => fun c => datMm n v c

variable (n : ℕ) (v : Dev nD → Valuation τ sig (Elt F)) (c : Dev nD)

/-- Each block is the array itself. -/
theorem prep_fetch0 (d) : (datPrep n v c).before 0 t0_0 d = v c (nm main_v0) := by
  unfold Dat.before; rw [if_pos (by decide)]
  funext y
  show v c (nm main_v0) (((cfg0.win 0).rect t0_0).emb y) = _
  congr 1; funext a; apply Fin.ext; rw [Window.rect_emb_val_of_index_zero _ _ _ rfl]

theorem prep_fetch1 (d) : (datPrep n v c).before 1 t0_0 d = v c (nm main_v2) := by
  unfold Dat.before; rw [if_pos (by decide)]
  funext y
  show v c (nm main_v2) (((cfg0.win 1).rect t0_0).emb y) = _
  congr 1; funext a; apply Fin.ext; rw [Window.rect_emb_val_of_index_zero _ _ _ rfl]

theorem mm_fetch0 (d) : (datMm n v c).before 0 t2_0 d = v c (nm main_v10) := by
  unfold Dat.before; rw [if_pos (by decide)]
  funext y
  show v c (nm main_v10) (((cfg2.win 0).rect t2_0).emb y) = _
  congr 1; funext a; apply Fin.ext; rw [Window.rect_emb_val_of_index_zero _ _ _ rfl]

theorem mm_fetch1 (d) : (datMm n v c).before 1 t2_0 d = v c (nm main_arg2) := by
  unfold Dat.before; rw [if_pos (by decide)]
  funext y
  show v c (nm main_arg2) (((cfg2.win 1).rect t2_0).emb y) = _
  congr 1; funext a; apply Fin.ext; rw [Window.rect_emb_val_of_index_zero _ _ _ rfl]

theorem mm_fetch2 (d) : (datMm n v c).before 2 t2_0 d = v c (nm main_v12) := by
  unfold Dat.before; rw [if_pos (by decide)]
  funext y
  show v c (nm main_v12) (((cfg2.win 2).rect t2_0).emb y) = _
  congr 1; funext a; apply Fin.ext; rw [Window.rect_emb_val_of_index_zero _ _ _ rfl]

theorem prep_obligation : BodyObligation (datPrep n v c) (defs₀ (F := F)) 𝒱₀ (none : HIx 1) Set.univ := fun t => by
  obtain rfl := fin_N0 t
  rw [bigSep_W0, bigSep_W0]
  simp only [owns_whole_eq]
  rw [show (datPrep n v c).Φ t0_0.succ = (datPrep n v c).Φ t0_0.castSucc from rfl,
    show (datPrep n v c).owesAt (none : HIx 1) t0_0.succ = (datPrep n v c).owesAt (none : HIx 1) t0_0.castSucc from rfl]
  iintro ⟨HΦ, Howes, ⟨%d0, %f0, %h0, H0⟩, ⟨%d1, %f1, %h1, H1⟩, ⟨%d2, %f2, -, H2⟩⟩
  rw [prep_fetch0] at h0
  rw [prep_fetch1] at h1
  subst h0 h1
  iapply (prep_body c (v c (nm main_v0)) (v c (nm main_v2)) f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [datPrep]
  isplitl [H1]; · iexists _; isplitr; swap; (· iexact H1); ipureintro; dsimp only [datPrep]
  iexists _; isplitr; swap; (· iexact H2); ipureintro; dsimp only [datPrep]

theorem mm_obligation : BodyObligation (datMm n v c) (defs₀ (F := F)) 𝒱₀ (none : HIx 1) Set.univ := fun t => by
  obtain rfl := fin_N2 t
  rw [bigSep_W2, bigSep_W2]
  simp only [owns_whole_eq]
  rw [show (datMm n v c).Φ t2_0.succ = (datMm n v c).Φ t2_0.castSucc from rfl,
    show (datMm n v c).owesAt (none : HIx 1) t2_0.succ = (datMm n v c).owesAt (none : HIx 1) t2_0.castSucc from rfl]
  iintro ⟨HΦ, Howes, ⟨%d0, %f0, %h0, H0⟩, ⟨%d1, %f1, %h1, H1⟩, ⟨%d2, %f2, %h2, H2⟩, ⟨%d3, %f3, -, H3⟩⟩
  rw [mm_fetch0] at h0
  rw [mm_fetch1] at h1
  rw [mm_fetch2] at h2
  subst h0 h1 h2
  iapply (mm_body c (v c (nm main_v10)) (v c (nm main_arg2)) (v c (nm main_v12)) f3 _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [datMm]
  isplitl [H1]; · iexists _; isplitr; swap; (· iexact H1); ipureintro; dsimp only [datMm]
  isplitl [H2]; · iexists _; isplitr; swap; (· iexact H2); ipureintro; dsimp only [datMm]
  iexists _; isplitr; swap; (· iexact H3); ipureintro; dsimp only [datMm]

/-- The device's buffers after the preparation kernel. -/
def afterPrep (d : Valuation τ sig (Elt F)) : Valuation τ sig (Elt F) :=
  Function.update d (nm main_v3) (prepOut (d (nm main_v0)) (d (nm main_v2)))

/-- The device's buffers after the product kernel. -/
def afterMm (d : Valuation τ sig (Elt F)) : Valuation τ sig (Elt F) :=
  Function.update d (nm main_v13) (mmOut (d (nm main_v10)) (d (nm main_arg2)) (d (nm main_v12)))

theorem prep_final (w : Fin 3) :
    (datPrep n v c).arrAt w cfg0.N = afterPrep (v c) (nm (Pipeline.arrRef spec0 w)) := by
  match w with
  | ⟨0, _⟩ => exact ((datPrep n v c).arrAt_in 0 rfl _).trans (Function.update_of_ne (show nm main_v0 ≠ nm main_v3 by decide) _ _).symm
  | ⟨1, _⟩ => exact ((datPrep n v c).arrAt_in 1 rfl _).trans (Function.update_of_ne (show nm main_v2 ≠ nm main_v3 by decide) _ _).symm
  | ⟨2, _⟩ =>
    refine (datPrep n v c).arrAt_eq_of_after_last (2 : Fin 3) t0_0 (by decide +kernel) _ fun j => ?_
    exact (congrFun (Function.update_self (nm main_v3) (prepOut (v c (nm main_v0)) (v c (nm main_v2))) (v c)) j).symm

theorem mm_final (w : Fin 4) :
    (datMm n v c).arrAt w cfg2.N = afterMm (v c) (nm (Pipeline.arrRef spec2 w)) := by
  match w with
  | ⟨0, _⟩ => exact ((datMm n v c).arrAt_in 0 rfl _).trans (Function.update_of_ne (show nm main_v10 ≠ nm main_v13 by decide) _ _).symm
  | ⟨1, _⟩ => exact ((datMm n v c).arrAt_in 1 rfl _).trans (Function.update_of_ne (show nm main_arg2 ≠ nm main_v13 by decide) _ _).symm
  | ⟨2, _⟩ => exact ((datMm n v c).arrAt_in 2 rfl _).trans (Function.update_of_ne (show nm main_v12 ≠ nm main_v13 by decide) _ _).symm
  | ⟨3, _⟩ =>
    refine (datMm n v c).arrAt_eq_of_after_last (3 : Fin 4) t2_0 (by decide +kernel) _ fun j => ?_
    exact (congrFun (Function.update_self (nm main_v13)
      (mmOut (v c (nm main_v10)) (v c (nm main_arg2)) (v c (nm main_v12))) (v c)) j).symm

theorem prep_rest (b : Ref sig .tc) (h : b ∉ Finset.univ.image (Pipeline.arrRef spec0)) :
    afterPrep (v c) (nm b) = v c (nm b) := by
  refine Function.update_of_ne (fun e => h ?_) _ _
  rw [Proc.devRef_injective _ e]
  decide

theorem mm_rest (b : Ref sig .tc) (h : b ∉ Finset.univ.image (Pipeline.arrRef spec2)) :
    afterMm (v c) (nm b) = v c (nm b) := by
  refine Function.update_of_ne (fun e => h ?_) _ _
  rw [Proc.devRef_injective _ e]
  decide

/-- The preparation kernel's stretch. -/
def prepRegion : Pipeline.RegionSeg (pcfgs (F := F)) adm (dats n v) (none : HIx 1) (defs₀ (F := F)) 𝒱₀ (K (F := F)).L (K (F := F)).lev 0 :=
  region (dats n v) 0 n v (fun c => afterPrep (v c)) launch0 (fun _ _ => rfl) (fun _ _ => rfl)
    (fun c => (dats n v 0 c).share_full fun _ => rfl) (fun _ _ => rfl) (fun _ _ => rfl) (fun c => prep_obligation n v c)
    (fun c w => prep_final n v c w) (fun c b h => prep_rest v c b h)

/-- The product kernel's stretch. -/
def mmRegion : Pipeline.RegionSeg (pcfgs (F := F)) adm (dats n v) (none : HIx 1) (defs₀ (F := F)) 𝒱₀ (K (F := F)).L (K (F := F)).lev 1 :=
  region (dats n v) 1 n v (fun c => afterMm (v c)) launch2 (fun _ _ => rfl) (fun _ _ => rfl)
    (fun c => (dats n v 1 c).share_full fun _ => rfl) (fun _ _ => rfl) (fun _ _ => rfl) (fun c => mm_obligation n v c)
    (fun c w => mm_final n v c w) (fun c b h => mm_rest v c b h)

end Cert.Proof.Quantize

end
-- ==== Proof.Gather.lean ====
/- The indexed loads of the vector subcore kernel, and the pieces of its loop's trip that search the table. -/
module

public import proofs.«01_k».proof.Proof.Setup

@[expose] public section

set_option maxRecDepth 16384

noncomputable section

namespace Cert.Proof.Quantize

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid1.Coords)

/-- A vector subcore's program. -/
abbrev TileProg (F : FTy → Type) (d : Dev nD) (L : grid1.Coords) (α : Type) :=
  Prog (TpuEff nD τ sig (Elt F) Λ₀ (tV d L).2) α

/-- An indexed load of the thresholds, after the check of its words, continues at their gather. -/
theorem wp_look_mid {α : Type} {P : Prop} {dec : Decidable P} (hP : P) {v : IVec S16 32}
    {h : PLift P → ∀ a x, ((![v] : Fin 1 → IVec S16 32) a x).toNat < S512.size a}
    {hl : mW.view.Loads} {k : Vec F S16 .f32 → TileProg F d L α} {Q : α → sProp 𝕄} (M : Buf (Elt F) (mWLoc d L)) :
    (mWLoc d L ↦{fullShare} M : sProp 𝕄)
      ⊢ iprop(((mWLoc d L ↦{fullShare} M) -∗ wp frame (wpE (defs₀ (F := F)) 𝒱₀ (tV d L) none) Set.univ (k (gath M v)) Q)
          -∗ wp frame (wpE (defs₀ (F := F)) 𝒱₀ (tV d L) none) Set.univ
              (.op (.assume P dec) fun p => SparseCore.vectorLoadIdx mW ![v] (h p) hl >>= k) Q) := by
  have e : wp frame (wpE (defs₀ (F := F)) 𝒱₀ (tV d L) none) Set.univ
      (.op (.assume P dec) fun p => SparseCore.vectorLoadIdx mW ![v] (h p) hl >>= k) Q
      = wp frame (wpE (defs₀ (F := F)) 𝒱₀ (tV d L) none) Set.univ (SparseCore.vectorLoadIdx mW ![v] (h ⟨hP⟩) hl >>= k) Q :=
    wp_assume_of 𝒱₀ (tV d L) none Set.univ hP
  have g := loadIdx_eq M v (h ⟨hP⟩)
  have t := SparseCore.wp_vectorLoadIdx (defs := defs₀ (F := F)) (h := h ⟨hP⟩) (hl := hl) (k := k) (Q := Q) 𝒱₀ (tV d L) none Set.univ (base := mW) (S := Finset.univ) (q := fullShare) (f := M) (Finset.subset_univ _)
  have r : View.read (Elt F) (mW.access (Rect.whole S512)) M = M := Memref.read_access_whole _ _ _
  rw [r, g] at t
  rw [e]; exact t

/-- An indexed load of the levels, after the check of its words, continues at their gather. -/
theorem wp_look_srt {α : Type} {P : Prop} {dec : Decidable P} (hP : P) {v : IVec S16 32}
    {h : PLift P → ∀ a x, ((![v] : Fin 1 → IVec S16 32) a x).toNat < S512.size a}
    {hl : sW.view.Loads} {k : Vec F S16 .f32 → TileProg F d L α} {Q : α → sProp 𝕄} (S : Buf (Elt F) (sWLoc d L)) :
    (sWLoc d L ↦{fullShare} S : sProp 𝕄)
      ⊢ iprop(((sWLoc d L ↦{fullShare} S) -∗ wp frame (wpE (defs₀ (F := F)) 𝒱₀ (tV d L) none) Set.univ (k (gath S v)) Q)
          -∗ wp frame (wpE (defs₀ (F := F)) 𝒱₀ (tV d L) none) Set.univ
              (.op (.assume P dec) fun p => SparseCore.vectorLoadIdx sW ![v] (h p) hl >>= k) Q) := by
  have e : wp frame (wpE (defs₀ (F := F)) 𝒱₀ (tV d L) none) Set.univ
      (.op (.assume P dec) fun p => SparseCore.vectorLoadIdx sW ![v] (h p) hl >>= k) Q
      = wp frame (wpE (defs₀ (F := F)) 𝒱₀ (tV d L) none) Set.univ (SparseCore.vectorLoadIdx sW ![v] (h ⟨hP⟩) hl >>= k) Q :=
    wp_assume_of 𝒱₀ (tV d L) none Set.univ hP
  have g := loadIdx_eq S v (h ⟨hP⟩)
  have t := SparseCore.wp_vectorLoadIdx (defs := defs₀ (F := F)) (h := h ⟨hP⟩) (hl := hl) (k := k) (Q := Q) 𝒱₀ (tV d L) none Set.univ (base := sW) (S := Finset.univ) (q := fullShare) (f := S) (Finset.subset_univ _)
  have r : View.read (Elt F) (sW.access (Rect.whole S512)) S = S := Memref.read_access_whole _ _ _
  rw [r, g] at t
  rw [e]; exact t

variable (r0 r1 r2 r3 : DmaSems sig S_) (M : Buf (Elt F) (mWLoc d L)) (S : Buf (Elt F) (sWLoc d L))

/-- The first search of a trip, from its coarse positions on: its entries' quantised values. -/
theorem wp_part3 (x : Vec F S16 .f32) (a : IVec S16 32) (b : IVec S16 1) (hp : k1_pay6 a b = coarseV M x 15)
    {Q : (Σ' (_ : Vec F S16 .f32), IVec S16 32) → sProp 𝕄} :
    iprop((mWLoc d L ↦{fullShare} M) ∗ (sWLoc d L ↦{fullShare} S) ∗ ((mWLoc d L ↦{fullShare} M) -∗ (sWLoc d L ↦{fullShare} S) -∗ Q ⟨quantV M S x, k1_pay17⟩))
      ⊢ wp frame (wpE (defs₀ (F := F)) 𝒱₀ (tV d L) none) Set.univ
          (k1_part3 L xA (Memref.isWhole_whole _) sA (Memref.isWhole_whole _) mA (Memref.isWhole_whole _) oA (Memref.isWhole_whole _)
            xW (Memref.isWhole_whole _) sW (Memref.isWhole_whole _) mW (Memref.isWhole_whole _) qW (Memref.isWhole_whole _) r0 r1 r2 r3 x a b) Q := by
  have u0 : Upto 480 (k1_pay6 a b) := hp ▸ upto_coarseV M x
  have u1 := u0.fineV M x 15 16
  have u2 := u1.fineV M x 7 8
  have u3 := u2.fineV M x 3 4
  have u4 := u3.fineV M x 1 2
  have u5 := u4.fineV M x 0 1
  have e : quantV M S x = gath S (fineV M x 0 1 (fineV M x 1 2 (fineV M x 3 4 (fineV M x 7 8 (fineV M x 15 16 (k1_pay6 a b)))))) := by
    rw [hp]; rfl
  rw [e]
  simp only [k1_part3_eq_skeleton]; unfold k1_part3_skel
  simp only [Prog.lift, Prog.bind_op, Prog.bind_ret, Prog.pure_eq_ret]
  iintro ⟨HM, HS, Hk⟩
  iapply (wp_look_mid d L (u0.inb 15 (by decide)) (v := addi (k1_pay6 a b) (broadcast S16 15)) M) $$ HM; iintro HM
  iapply (wp_look_mid d L (u1.inb 7 (by decide)) (v := addi (fineV M x 15 16 (k1_pay6 a b)) (broadcast S16 7)) M) $$ HM; iintro HM
  iapply (wp_look_mid d L (u2.inb 3 (by decide)) (v := addi (fineV M x 7 8 (fineV M x 15 16 (k1_pay6 a b))) (broadcast S16 3)) M) $$ HM; iintro HM
  iapply (wp_look_mid d L (u3.inb 1 (by decide)) (v := addi (fineV M x 3 4 (fineV M x 7 8 (fineV M x 15 16 (k1_pay6 a b)))) (broadcast S16 1)) M) $$ HM; iintro HM
  iapply (wp_look_mid d L (u4.inb 0 (by decide)) (v := addi (fineV M x 1 2 (fineV M x 3 4 (fineV M x 7 8 (fineV M x 15 16 (k1_pay6 a b))))) (broadcast S16 0)) M) $$ HM; iintro HM
  iapply (wp_look_srt d L (u5.inb' (by decide)) (v := (fineV M x 0 1 (fineV M x 1 2 (fineV M x 3 4 (fineV M x 7 8 (fineV M x 15 16 (k1_pay6 a b))))))) S) $$ HS; iintro HS
  rw [wp_ret]; imodintro
  iapply Hk $$ HM HS

/-- The second search of a trip, its first two halving steps: the positions after one, and the thresholds the second looks at. -/
theorem wp_part5 (x c0 c1 c2 c3 c4 c5 : Vec F S16 .f32) (a : IVec S16 32) (b : IVec S16 1) (z : BitVec 32) (o : IVec S16 32) (hp : k1_pay21 c0 c1 c2 c3 c4 c5 x a b z o = coarseV M x 15)
    {Q : (Σ' (_ : IVec S16 32), Vec F S16 .f32) → sProp 𝕄} :
    iprop((mWLoc d L ↦{fullShare} M) ∗ ((mWLoc d L ↦{fullShare} M) -∗ Q ⟨fineV M x 15 16 (coarseV M x 15), gath M (addi (fineV M x 15 16 (coarseV M x 15)) (broadcast S16 7))⟩))
      ⊢ wp frame (wpE (defs₀ (F := F)) 𝒱₀ (tV d L) none) Set.univ
          (k1_part5 L xA (Memref.isWhole_whole _) sA (Memref.isWhole_whole _) mA (Memref.isWhole_whole _) oA (Memref.isWhole_whole _)
            xW (Memref.isWhole_whole _) sW (Memref.isWhole_whole _) mW (Memref.isWhole_whole _) qW (Memref.isWhole_whole _) r0 r1 r2 r3 c0 c1 c2 c3 c4 c5 x a b z o) Q := by
  have u0 : Upto 480 (k1_pay21 c0 c1 c2 c3 c4 c5 x a b z o) := hp ▸ upto_coarseV M x
  have u1 := u0.fineV M x 15 16
  rw [← hp]
  simp only [k1_part5_eq_skeleton]; unfold k1_part5_skel
  simp only [Prog.lift, Prog.bind_op, Prog.bind_ret, Prog.pure_eq_ret]
  iintro ⟨HM, Hk⟩
  iapply (wp_look_mid d L (u0.inb 15 (by decide)) (v := addi (k1_pay21 c0 c1 c2 c3 c4 c5 x a b z o) (broadcast S16 15)) M) $$ HM; iintro HM
  iapply (wp_look_mid d L (u1.inb 7 (by decide)) (v := addi (fineV M x 15 16 (k1_pay21 c0 c1 c2 c3 c4 c5 x a b z o)) (broadcast S16 7)) M) $$ HM; iintro HM
  rw [show k1_pay23 c0 c1 c2 c3 c4 c5 x a b z o (gath M (addi (k1_pay21 c0 c1 c2 c3 c4 c5 x a b z o) (broadcast S16 15))) = (fineV M x 15 16 (k1_pay21 c0 c1 c2 c3 c4 c5 x a b z o)) from rfl]
  rw [wp_ret]; imodintro
  iapply Hk $$ HM

/-- The second search of a trip, the rest of it. -/
theorem wp_part6 (x c0 c1 c2 y : Vec F S16 .f32)
    {Q : (Σ' (_ : Vec F S16 .f32), IVec S16 32) → sProp 𝕄} :
    iprop((mWLoc d L ↦{fullShare} M) ∗ (sWLoc d L ↦{fullShare} S) ∗ ((mWLoc d L ↦{fullShare} M) -∗ (sWLoc d L ↦{fullShare} S) -∗ Q ⟨quantV M S x, k1_pay32 c0 c1 c2 y⟩))
      ⊢ wp frame (wpE (defs₀ (F := F)) 𝒱₀ (tV d L) none) Set.univ
          (k1_part6 L xA (Memref.isWhole_whole _) sA (Memref.isWhole_whole _) mA (Memref.isWhole_whole _) oA (Memref.isWhole_whole _)
            xW (Memref.isWhole_whole _) sW (Memref.isWhole_whole _) mW (Memref.isWhole_whole _) qW (Memref.isWhole_whole _) r0 r1 r2 r3 c0 c1 c2 x y (fineV M x 15 16 (coarseV M x 15)) (gath M (addi (fineV M x 15 16 (coarseV M x 15)) (broadcast S16 7)))) Q := by
  have u0 : Upto 480 (coarseV M x 15) := upto_coarseV M x
  have u1 := u0.fineV M x 15 16
  have u2 := u1.fineV M x 7 8
  have u3 := u2.fineV M x 3 4
  have u4 := u3.fineV M x 1 2
  have u5 := u4.fineV M x 0 1
  rw [show quantV M S x = gath S (fineV M x 0 1 (fineV M x 1 2 (fineV M x 3 4 (fineV M x 7 8 (fineV M x 15 16 (coarseV M x 15)))))) from rfl]
  simp only [k1_part6_eq_skeleton]; unfold k1_part6_skel
  simp only [Prog.lift, Prog.bind_op, Prog.bind_ret, Prog.pure_eq_ret]
  iintro ⟨HM, HS, Hk⟩
  iapply (wp_look_mid d L (u2.inb 3 (by decide)) (v := addi (fineV M x 7 8 (fineV M x 15 16 (coarseV M x 15))) (broadcast S16 3)) M) $$ HM; iintro HM
  iapply (wp_look_mid d L (u3.inb 1 (by decide)) (v := addi (fineV M x 3 4 (fineV M x 7 8 (fineV M x 15 16 (coarseV M x 15)))) (broadcast S16 1)) M) $$ HM; iintro HM
  iapply (wp_look_mid d L (u4.inb 0 (by decide)) (v := addi (fineV M x 1 2 (fineV M x 3 4 (fineV M x 7 8 (fineV M x 15 16 (coarseV M x 15))))) (broadcast S16 0)) M) $$ HM; iintro HM
  iapply (wp_look_srt d L (u5.inb' (by decide)) (v := (fineV M x 0 1 (fineV M x 1 2 (fineV M x 3 4 (fineV M x 7 8 (fineV M x 15 16 (coarseV M x 15))))))) S) $$ HS; iintro HS
  rw [wp_ret]; imodintro
  iapply Hk $$ HM HS

/-- The third search of a trip, its first four looks. -/
theorem wp_part8 (x c0 c1 c2 : Vec F S16 .f32) (a : IVec S16 32) (b : IVec S16 1) (z : BitVec 32) (o : IVec S16 32) (hp : k1_pay36 c0 c1 c2 x a b z o = coarseV M x 15)
    {Q : (Σ' (_ : IVec S16 32), IVec S16 1) → sProp 𝕄} :
    iprop((mWLoc d L ↦{fullShare} M) ∗ ((mWLoc d L ↦{fullShare} M) -∗ Q ⟨(fineV M x 3 4 (fineV M x 7 8 (fineV M x 15 16 (coarseV M x 15)))),
        cmpf .olt (gath M (addi (fineV M x 3 4 (fineV M x 7 8 (fineV M x 15 16 (coarseV M x 15)))) (broadcast S16 1))) x⟩))
      ⊢ wp frame (wpE (defs₀ (F := F)) 𝒱₀ (tV d L) none) Set.univ
          (k1_part8 L xA (Memref.isWhole_whole _) sA (Memref.isWhole_whole _) mA (Memref.isWhole_whole _) oA (Memref.isWhole_whole _)
            xW (Memref.isWhole_whole _) sW (Memref.isWhole_whole _) mW (Memref.isWhole_whole _) qW (Memref.isWhole_whole _) r0 r1 r2 r3 c0 c1 c2 x a b z o) Q := by
  have u0 : Upto 480 (k1_pay36 c0 c1 c2 x a b z o) := hp ▸ upto_coarseV M x
  have u1 := u0.fineV M x 15 16
  have u2 := u1.fineV M x 7 8
  have u3 := u2.fineV M x 3 4
  rw [← hp]
  simp only [k1_part8_eq_skeleton]; unfold k1_part8_skel
  simp only [Prog.lift, Prog.bind_op, Prog.bind_ret, Prog.pure_eq_ret]
  iintro ⟨HM, Hk⟩
  iapply (wp_look_mid d L (u0.inb 15 (by decide)) (v := addi (k1_pay36 c0 c1 c2 x a b z o) (broadcast S16 15)) M) $$ HM; iintro HM
  iapply (wp_look_mid d L (u1.inb 7 (by decide)) (v := addi (fineV M x 15 16 (k1_pay36 c0 c1 c2 x a b z o)) (broadcast S16 7)) M) $$ HM; iintro HM
  iapply (wp_look_mid d L (u2.inb 3 (by decide)) (v := addi (fineV M x 7 8 (fineV M x 15 16 (k1_pay36 c0 c1 c2 x a b z o))) (broadcast S16 3)) M) $$ HM; iintro HM
  iapply (wp_look_mid d L (u3.inb 1 (by decide)) (v := addi (fineV M x 3 4 (fineV M x 7 8 (fineV M x 15 16 (k1_pay36 c0 c1 c2 x a b z o)))) (broadcast S16 1)) M) $$ HM; iintro HM
  rw [show k1_pay42 c0 c1 c2 x a b z o (gath M (addi (k1_pay36 c0 c1 c2 x a b z o) (broadcast S16 15))) (gath M (addi (fineV M x 15 16 (k1_pay36 c0 c1 c2 x a b z o)) (broadcast S16 7)))
      (gath M (addi (fineV M x 7 8 (fineV M x 15 16 (k1_pay36 c0 c1 c2 x a b z o))) (broadcast S16 3))) = (fineV M x 3 4 (fineV M x 7 8 (fineV M x 15 16 (k1_pay36 c0 c1 c2 x a b z o)))) from rfl,
    show k1_pay44 x (gath M (addi (fineV M x 3 4 (fineV M x 7 8 (fineV M x 15 16 (k1_pay36 c0 c1 c2 x a b z o)))) (broadcast S16 1))) = cmpf .olt (gath M (addi (fineV M x 3 4 (fineV M x 7 8 (fineV M x 15 16 (k1_pay36 c0 c1 c2 x a b z o)))) (broadcast S16 1))) x from rfl]
  rw [wp_ret]; imodintro
  iapply Hk $$ HM

/-- The third search of a trip, the rest of it. -/
theorem wp_part9 (x c0 c1 c2 c3 c4 c5 y : Vec F S16 .f32)
    {Q : (Σ' (_ : Vec F S16 .f32), IVec S16 32) → sProp 𝕄} :
    iprop((mWLoc d L ↦{fullShare} M) ∗ (sWLoc d L ↦{fullShare} S) ∗ ((mWLoc d L ↦{fullShare} M) -∗ (sWLoc d L ↦{fullShare} S) -∗ Q ⟨quantV M S x, k1_pay48 c0 c1 c2 c3 c4 c5 y⟩))
      ⊢ wp frame (wpE (defs₀ (F := F)) 𝒱₀ (tV d L) none) Set.univ
          (k1_part9 L xA (Memref.isWhole_whole _) sA (Memref.isWhole_whole _) mA (Memref.isWhole_whole _) oA (Memref.isWhole_whole _)
            xW (Memref.isWhole_whole _) sW (Memref.isWhole_whole _) mW (Memref.isWhole_whole _) qW (Memref.isWhole_whole _) r0 r1 r2 r3 c0 c1 c2 c3 c4 c5 x y (fineV M x 3 4 (fineV M x 7 8 (fineV M x 15 16 (coarseV M x 15))))
            (cmpf .olt (gath M (addi (fineV M x 3 4 (fineV M x 7 8 (fineV M x 15 16 (coarseV M x 15)))) (broadcast S16 1))) x)) Q := by
  have u0 : Upto 480 (coarseV M x 15) := upto_coarseV M x
  have u1 := u0.fineV M x 15 16
  have u2 := u1.fineV M x 7 8
  have u3 := u2.fineV M x 3 4
  have u4 := u3.fineV M x 1 2
  have u5 := u4.fineV M x 0 1
  rw [show quantV M S x = gath S (fineV M x 0 1 (fineV M x 1 2 (fineV M x 3 4 (fineV M x 7 8 (fineV M x 15 16 (coarseV M x 15)))))) from rfl]
  simp only [k1_part9_eq_skeleton]; unfold k1_part9_skel
  simp only [Prog.lift, Prog.bind_op, Prog.bind_ret, Prog.pure_eq_ret]
  iintro ⟨HM, HS, Hk⟩
  iapply (wp_look_mid d L (u4.inb 0 (by decide)) (v := addi (fineV M x 1 2 (fineV M x 3 4 (fineV M x 7 8 (fineV M x 15 16 (coarseV M x 15))))) (broadcast S16 0)) M) $$ HM; iintro HM
  iapply (wp_look_srt d L (u5.inb' (by decide)) (v := (fineV M x 0 1 (fineV M x 1 2 (fineV M x 3 4 (fineV M x 7 8 (fineV M x 15 16 (coarseV M x 15))))))) S) $$ HS; iintro HS
  rw [wp_ret]; imodintro
  iapply Hk $$ HM HS

/-- The fourth search of a trip, and the store of the first search's values. -/
theorem wp_part11 (t : Fin k1_t1_loop.trips) (i0 : BitVec 32) (x y : Vec F S16 .f32) (a : IVec S16 32) (b : IVec S16 1) (z : BitVec 32) (o : IVec S16 32)
    (hp : k1_pay52 a b z o = coarseV M x 15) (f : Buf (Elt F) (qWLoc d L))
    {Q : Vec F S16 .f32 → sProp 𝕄} :
    iprop((mWLoc d L ↦{fullShare} M) ∗ (sWLoc d L ↦{fullShare} S) ∗ (qWLoc d L ↦{fullShare} f)
        ∗ ((mWLoc d L ↦{fullShare} M) -∗ (sWLoc d L ↦{fullShare} S)
          -∗ (qWLoc d L ↦{fullShare} ((qW.access (Rect.unit (s := S4096) (k1_off3 t 0#32) S16.size (k1_off3_inb t 0))).write (Elt F) f y Finset.univ))
          -∗ Q (quantV M S x)))
      ⊢ wp frame (wpE (defs₀ (F := F)) 𝒱₀ (tV d L) none) Set.univ
          (k1_part11 L xA (Memref.isWhole_whole _) sA (Memref.isWhole_whole _) mA (Memref.isWhole_whole _) oA (Memref.isWhole_whole _)
            xW (Memref.isWhole_whole _) sW (Memref.isWhole_whole _) mW (Memref.isWhole_whole _) qW (Memref.isWhole_whole _) r0 r1 r2 r3 t i0 x y a b z o) Q := by
  have u0 : Upto 480 (k1_pay52 a b z o) := hp ▸ upto_coarseV M x
  have u1 := u0.fineV M x 15 16
  have u2 := u1.fineV M x 7 8
  have u3 := u2.fineV M x 3 4
  have u4 := u3.fineV M x 1 2
  have u5 := u4.fineV M x 0 1
  have e : quantV M S x = gath S (fineV M x 0 1 (fineV M x 1 2 (fineV M x 3 4 (fineV M x 7 8 (fineV M x 15 16 (k1_pay52 a b z o)))))) := by
    rw [hp]; rfl
  rw [e]
  simp only [k1_part11_eq_skeleton]; unfold k1_part11_skel
  simp only [Prog.lift, Prog.bind_op, Prog.bind_ret, Prog.pure_eq_ret]
  iintro ⟨HM, HS, HQ, Hk⟩
  iapply (wp_look_mid d L (u0.inb 15 (by decide)) (v := addi (k1_pay52 a b z o) (broadcast S16 15)) M) $$ HM; iintro HM
  iapply (wp_look_mid d L (u1.inb 7 (by decide)) (v := addi (fineV M x 15 16 (k1_pay52 a b z o)) (broadcast S16 7)) M) $$ HM; iintro HM
  iapply (wp_look_mid d L (u2.inb 3 (by decide)) (v := addi (fineV M x 7 8 (fineV M x 15 16 (k1_pay52 a b z o))) (broadcast S16 3)) M) $$ HM; iintro HM
  iapply (wp_look_mid d L (u3.inb 1 (by decide)) (v := addi (fineV M x 3 4 (fineV M x 7 8 (fineV M x 15 16 (k1_pay52 a b z o)))) (broadcast S16 1)) M) $$ HM; iintro HM
  iapply (wp_look_mid d L (u4.inb 0 (by decide)) (v := addi (fineV M x 1 2 (fineV M x 3 4 (fineV M x 7 8 (fineV M x 15 16 (k1_pay52 a b z o))))) (broadcast S16 0)) M) $$ HM; iintro HM
  iapply (wp_look_srt d L (u5.inb' (by decide)) (v := (fineV M x 0 1 (fineV M x 1 2 (fineV M x 3 4 (fineV M x 7 8 (fineV M x 15 16 (k1_pay52 a b z o))))))) S) $$ HS; iintro HS
  iapply (wp_load 𝒱₀ (tV d L) none Set.univ (m := qW) (S := Finset.univ) (Finset.subset_univ _)) $$ HQ; iintro HQ
  iapply (wp_store 𝒱₀ (tV d L) none Set.univ (m := qW) (r := Rect.unit (s := S4096) (k1_off3 t 0#32) S16.size (k1_off3_inb t 0)) (f := f) (Mk := Finset.univ) (S := Finset.univ) (Finset.subset_univ _)) $$ HQ; iintro HQ
  rw [wp_ret]; imodintro
  iapply Hk $$ HM HS HQ

/-! ## The coarse positions of the four searches, as the trip computes them -/

/-- The thresholds the coarse search compares with. -/
abbrev ct (M : Vec F S512 .f32) (n : ℕ) : Vec F S16 .f32 := gath M (broadcast S16 (BitVec.ofNat 32 (32 * n + 31)))

theorem coarse_first (M : Vec F S512 .f32) (x : Vec F S16 .f32) :
    k1_pay6 (k1_pay4 (ct M 6) (ct M 7) (ct M 8) (ct M 9) (ct M 10) (ct M 11) (ct M 12) (ct M 13) x
      (k1_pay1 (ct M 0) (ct M 1) (ct M 2) (ct M 3) (ct M 4) x) (k1_pay2 (ct M 5) x) 0#32 k1_pay3) (k1_pay5 (ct M 14) x) = coarseV M x 15 := rfl

theorem coarse_second (M : Vec F S512 .f32) (x : Vec F S16 .f32) :
    k1_pay21 (ct M 9) (ct M 10) (ct M 11) (ct M 12) (ct M 13) (ct M 14) x
      (k1_pay18 (ct M 0) (ct M 1) (ct M 2) (ct M 3) (ct M 4) (ct M 5) (ct M 6) (ct M 7) x k1_pay17) (k1_pay19 (ct M 8) x) 0#32 k1_pay20 = coarseV M x 15 := rfl

theorem coarse_third (M : Vec F S512 .f32) (x : Vec F S16 .f32) :
    k1_pay36 (ct M 12) (ct M 13) (ct M 14) x
      (k1_pay33 (ct M 3) (ct M 4) (ct M 5) (ct M 6) (ct M 7) (ct M 8) (ct M 9) (ct M 10) x (k1_pay32 (ct M 0) (ct M 1) (ct M 2) x)) (k1_pay34 (ct M 11) x) 0#32 k1_pay35 = coarseV M x 15 := rfl

theorem coarse_fourth (M : Vec F S512 .f32) (x : Vec F S16 .f32) :
    k1_pay52 (k1_pay49 (ct M 6) (ct M 7) (ct M 8) (ct M 9) (ct M 10) (ct M 11) (ct M 12) (ct M 13) x
      (k1_pay48 (ct M 0) (ct M 1) (ct M 2) (ct M 3) (ct M 4) (ct M 5) x)) (k1_pay50 (ct M 14) x) 0#32 k1_pay51 = coarseV M x 15 := rfl

end Cert.Proof.Quantize

end
-- ==== Proof.Trip.lean ====
/- One trip of the vector subcore kernel's loop: 64 entries of the block are quantised. -/
module

public import proofs.«01_k».proof.Proof.Gather
public import Idealize.ShloMosaic.Lib.Writes

@[expose] public section

set_option maxRecDepth 16384

noncomputable section

namespace Cert.Proof.Quantize

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The four stores of a trip -/

/-- The 16 entries of a subcore's block from place `64 t + 16 r` on. -/
abbrev rL (t : Fin k1_t1_loop.trips) (r : Fin 4) : Rect S4096 :=
  Rect.unit (s := S4096) (k1_off2 t (BitVec.ofNat 32 (16 * r.val))) S16.size (k1_off2_inb t r)
abbrev rS (t : Fin k1_t1_loop.trips) (r : Fin 4) : Rect S4096 :=
  Rect.unit (s := S4096) (k1_off3 t (BitVec.ofNat 32 (16 * r.val))) S16.size (k1_off3_inb t r)

/-- The entries of that piece. -/
abbrev ent (X : S4096.Idx → Elt F .f32) (t : Fin k1_t1_loop.trips) (r : Fin 4) : Vec F S16 .f32 := xW.view.readAt (Elt F) (rL t r).toLoadRect X

/-- Their quantised values stored back at the same places. -/
abbrev put (t : Fin k1_t1_loop.trips) (r : Fin 4) (f : S4096.Idx → Elt F .f32) (y : Vec F S16 .f32) : S4096.Idx → Elt F .f32 :=
  (qW.access (rS t r)).write (Elt F) f y Finset.univ

theorem ent_apply (X : S4096.Idx → Elt F .f32) (t : Fin k1_t1_loop.trips) (r : Fin 4) (i : S16.Idx) :
    ent X t r i = X ((rL t r).emb i) := rfl

theorem emb_rL (t : Fin k1_t1_loop.trips) (r : Fin 4) (i : S16.Idx) : (rL t r).emb i = (rS t r).emb i := by
  funext a
  apply Fin.ext
  show k1_off2 t _ a + 1 * _ = k1_off3 t _ a + 1 * _
  rw [k1_off2_eq, k1_off3_eq]

/-- The quantised values of the entries up to place `n` are in place. -/
def Done (M S : Vec F S512 .f32) (X f : S4096.Idx → Elt F .f32) (n : ℕ) : Prop :=
  ∀ j : S4096.Idx, (j 0).val < n → f j = quant M S (X j)

theorem Done.more {M S : Vec F S512 .f32} {X f : S4096.Idx → Elt F .f32} {t : Fin k1_t1_loop.trips} {r : Fin 4}
    (h : Done M S X f (64 * t.val + 16 * r.val)) : Done M S X (put t r f (quantV M S (ent X t r))) (64 * t.val + 16 * (r.val + 1)) := by
  intro j hj
  by_cases hm : j ∈ (rS t r).set
  · obtain ⟨i, rfl⟩ : ∃ i, (rS t r).emb i = j := (rS t r).exists_idx_of_mem hm
    have e := View.read_slice_write_emb (v := qW.view) (Val := Elt F) (rS t r) f (quantV M S (ent X t r)) (M := Finset.univ) (x := i) (Finset.mem_univ _)
    refine Eq.trans e ?_
    rw [quantV_apply, ent_apply, emb_rL]
  · have e := View.read_slice_write_of_not_mem (v := qW.view) (Val := Elt F) (rS t r) f (quantV M S (ent X t r)) Finset.univ (y := j)
      (by rwa [Rect.map_emb_univ])
    refine Eq.trans e ?_
    refine h j ?_
    by_contra hlt
    refine hm ((Rect.mem_set_unit).mpr fun a => ?_)
    have : a = 0 := Subsingleton.elim _ _
    subst this
    rw [k1_off3_eq]
    show 64 * t.val + 16 * r.val ≤ (j 0).val ∧ (j 0).val < 64 * t.val + 16 * r.val + 16
    omega

theorem Done.mono {M S : Vec F S512 .f32} {X f : S4096.Idx → Elt F .f32} {n k : ℕ} (h : Done M S X f n) (e : n = k) : Done M S X f k := e ▸ h

/-- After the four stores of trip `t` the quantised values of 64 more entries are in place. -/
theorem Done.trip {M S : Vec F S512 .f32} {X f : S4096.Idx → Elt F .f32} {t : Fin k1_t1_loop.trips} (h : Done M S X f (64 * t.val)) :
    Done M S X (put t 3 (put t 2 (put t 1 (put t 0 f (quantV M S (ent X t 0))) (quantV M S (ent X t 1))) (quantV M S (ent X t 2)))
      (quantV M S (ent X t 3))) (64 * (t.val + 1)) := by
  have h0 : Done M S X f (64 * t.val + 16 * (0 : Fin 4).val) := h
  have h1 := h0.more
  have h2 := Done.more (r := 1) (h1.mono rfl)
  have h3 := Done.more (r := 2) (h2.mono rfl)
  have h4 := Done.more (r := 3) (h3.mono rfl)
  exact h4.mono (by show 64 * t.val + 16 * (3 + 1) = _; omega)

/-! ## The trip -/

variable (d : Dev nD) (L : grid1.Coords) (r0 r1 r2 r3 : DmaSems sig S_)
  (M : Buf (Elt F) (mWLoc d L)) (S : Buf (Elt F) (sWLoc d L)) (X : Buf (Elt F) (xWLoc d L))

/-- What holds before trip `n`: the thresholds, the levels and the entries as fetched, the quantised values of the
    first `64 n` entries in place. -/
def inv (n : ℕ) (_ : Unit) : sProp 𝕄 :=
  iprop((mWLoc d L ↦{fullShare} M) ∗ (sWLoc d L ↦{fullShare} S) ∗ (xWLoc d L ↦{fullShare} X)
    ∗ ∃ f : Buf (Elt F) (qWLoc d L), ⌜Done M S X f (64 * n)⌝ ∗ (qWLoc d L ↦{fullShare} f))

theorem wp_trip (t : Fin k1_t1_loop.trips) (acc : Unit) :
    inv d L M S X t.val acc
      ⊢ wp frame (wpE (defs₀ (F := F)) 𝒱₀ (tV d L) none) Set.univ
          (k1_t1_body L xA (Memref.isWhole_whole _) sA (Memref.isWhole_whole _) mA (Memref.isWhole_whole _) oA (Memref.isWhole_whole _)
            xW (Memref.isWhole_whole _) sW (Memref.isWhole_whole _) mW (Memref.isWhole_whole _) qW (Memref.isWhole_whole _) r0 r1 r2 r3
            (ct M 0) (ct M 1) (ct M 2) (ct M 3) (ct M 4) (ct M 5) (ct M 6) (ct M 7) (ct M 8) (ct M 9) (ct M 10) (ct M 11) (ct M 12) (ct M 13) (ct M 14)
            t acc) (inv d L M S X (t.val + 1)) := by
  unfold inv k1_t1_body
  simp only [k1_part1_eq_skeleton, k1_part2_eq_skeleton, k1_part4_eq_skeleton, k1_part7_eq_skeleton, k1_part10_eq_skeleton]
  unfold k1_part1_skel k1_part2_skel k1_part4_skel k1_part7_skel k1_part10_skel
  simp only [Prog.lift, Prog.bind_op, Prog.bind_ret, Prog.pure_eq_ret]
  iintro ⟨HM, HS, HX, %f, %hf, HQ⟩
  iapply (wp_load 𝒱₀ (tV d L) none Set.univ (m := xW) (S := Finset.univ) (Finset.subset_univ _)) $$ HX; iintro HX
  iapply (wp_load 𝒱₀ (tV d L) none Set.univ (m := xW) (S := Finset.univ) (Finset.subset_univ _)) $$ HX; iintro HX
  iapply (wp_load 𝒱₀ (tV d L) none Set.univ (m := xW) (S := Finset.univ) (Finset.subset_univ _)) $$ HX; iintro HX
  iapply (wp_load 𝒱₀ (tV d L) none Set.univ (m := xW) (S := Finset.univ) (Finset.subset_univ _)) $$ HX; iintro HX
  rw [wp_bind]
  iapply (wp_part3 d L r0 r1 r2 r3 M S (ent X t 0) _ _ (coarse_first M _))
  isplitl [HM]; · iexact HM
  isplitl [HS]; · iexact HS
  iintro HM HS
  rw [wp_bind]
  iapply (wp_part5 d L r0 r1 r2 r3 M (ent X t 1) _ _ _ _ _ _ _ _ _ _ (coarse_second M _))
  isplitl [HM]; · iexact HM
  iintro HM
  rw [wp_bind]
  iapply (wp_part6 d L r0 r1 r2 r3 M S (ent X t 1) _ _ _ _)
  isplitl [HM]; · iexact HM
  isplitl [HS]; · iexact HS
  iintro HM HS
  rw [wp_bind]
  iapply (wp_part8 d L r0 r1 r2 r3 M (ent X t 2) _ _ _ _ _ _ _ (coarse_third M _))
  isplitl [HM]; · iexact HM
  iintro HM
  rw [wp_bind]
  iapply (wp_part9 d L r0 r1 r2 r3 M S (ent X t 2) _ _ _ _ _ _ _)
  isplitl [HM]; · iexact HM
  isplitl [HS]; · iexact HS
  iintro HM HS
  rw [wp_bind]
  iapply (wp_part11 d L r0 r1 r2 r3 M S t _ (ent X t 3) _ _ _ _ _ (coarse_fourth M _) f)
  isplitl [HM]; · iexact HM
  isplitl [HS]; · iexact HS
  isplitl [HQ]; · iexact HQ
  iintro HM HS HQ
  iapply (wp_load 𝒱₀ (tV d L) none Set.univ (m := qW) (S := Finset.univ) (Finset.subset_univ _)) $$ HQ; iintro HQ
  iapply (wp_store 𝒱₀ (tV d L) none Set.univ (m := qW) (r := rS t 1) (Mk := Finset.univ) (S := Finset.univ) (Finset.subset_univ _)) $$ HQ; iintro HQ
  iapply (wp_load 𝒱₀ (tV d L) none Set.univ (m := qW) (S := Finset.univ) (Finset.subset_univ _)) $$ HQ; iintro HQ
  iapply (wp_store 𝒱₀ (tV d L) none Set.univ (m := qW) (r := rS t 2) (Mk := Finset.univ) (S := Finset.univ) (Finset.subset_univ _)) $$ HQ; iintro HQ
  iapply (wp_load 𝒱₀ (tV d L) none Set.univ (m := qW) (S := Finset.univ) (Finset.subset_univ _)) $$ HQ; iintro HQ
  iapply (wp_store 𝒱₀ (tV d L) none Set.univ (m := qW) (r := rS t 3) (Mk := Finset.univ) (S := Finset.univ) (Finset.subset_univ _)) $$ HQ; iintro HQ
  rw [wp_ret]; imodintro
  isplitl [HM]; · iexact HM
  isplitl [HS]; · iexact HS
  isplitl [HX]; · iexact HX
  iexists _; isplitr
  swap; · iexact HQ
  ipureintro
  exact hf.trip

end Cert.Proof.Quantize

end
-- ==== Proof.Tile.lean ====
/- The vector subcore kernel at one place of its launch grid: it fetches its block of entries and the two tables,
   quantises the block in 64 trips, and writes it out. -/
module

public import proofs.«01_k».proof.Proof.Trip

@[expose] public section

set_option maxRecDepth 16384

noncomputable section

namespace Cert.Proof.Quantize

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid1.Coords)

/-! ## The subcore's own semaphores and buffers -/

/-- The four semaphores of the kernel's copies. -/
abbrev cell0 : GSem nD τ sig := (tV d L, .dma cc1_scoped0.sem)
abbrev cell1 : GSem nD τ sig := (tV d L, .dma cc1_scoped1.sem)
abbrev cell2 : GSem nD τ sig := (tV d L, .dma cc1_scoped2.sem)
abbrev cell3 : GSem nD τ sig := (tV d L, .dma cc1_scoped3.sem)

omit [FloatOps F] in
theorem ownSems0_split :
    (ownSems0 (tV d L) : sProp 𝕄)
      = iprop(semVal (cell0 d L) 0 ∗ semVal (cell1 d L) 0 ∗ semVal (cell2 d L) 0 ∗ semVal (cell3 d L) 0
          ∗ bigSep (((((ownCells (tV d L)).erase (cell0 d L)).erase (cell1 d L)).erase (cell2 d L)).erase (cell3 d L)) fun g => semVal g 0) := by
  have h0 : cell0 d L ∈ ownCells (tV d L) := mem_ownCells.mpr ⟨rfl, show (SemLoc.dma cc1_scoped0.sem : SemLoc sig).isScoped .scVector = true by decide⟩
  have h1 : cell1 d L ∈ ownCells (tV d L) := mem_ownCells.mpr ⟨rfl, show (SemLoc.dma cc1_scoped1.sem : SemLoc sig).isScoped .scVector = true by decide⟩
  have h2 : cell2 d L ∈ ownCells (tV d L) := mem_ownCells.mpr ⟨rfl, show (SemLoc.dma cc1_scoped2.sem : SemLoc sig).isScoped .scVector = true by decide⟩
  have h3 : cell3 d L ∈ ownCells (tV d L) := mem_ownCells.mpr ⟨rfl, show (SemLoc.dma cc1_scoped3.sem : SemLoc sig).isScoped .scVector = true by decide⟩
  have ne {a b : SemLoc sig} (h : a ≠ b) : ((tV d L, a) : GSem nD τ sig) ≠ (tV d L, b) := fun e => h (Prod.mk.inj e).2
  have n10 : cell1 d L ≠ cell0 d L := ne (by decide)
  have n20 : cell2 d L ≠ cell0 d L := ne (by decide)
  have n21 : cell2 d L ≠ cell1 d L := ne (by decide)
  have n30 : cell3 d L ≠ cell0 d L := ne (by decide)
  have n31 : cell3 d L ≠ cell1 d L := ne (by decide)
  have n32 : cell3 d L ≠ cell2 d L := ne (by decide)
  unfold SparseCore.Cfg.ownSems0
  rw [SparseCore.bigSep_erase' h0,
    SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

/-- The four scratch buffers as buffers of the device. -/
abbrev ref0 : DevRef τ sig := (tV d L).2.devRef cc1_scratch0
abbrev ref1 : DevRef τ sig := (tV d L).2.devRef cc1_scratch1
abbrev ref2 : DevRef τ sig := (tV d L).2.devRef cc1_scratch2
abbrev ref3 : DevRef τ sig := (tV d L).2.devRef cc1_scratch3

omit [FloatOps F] in
theorem ownBufs_split :
    (ownBufs (tV d L) : sProp 𝕄)
      = iprop((∃ f, xWLoc d L ↦{fullShare} f) ∗ (∃ f, sWLoc d L ↦{fullShare} f) ∗ (∃ f, mWLoc d L ↦{fullShare} f) ∗ (∃ f, qWLoc d L ↦{fullShare} f)
          ∗ bigSep (((((ownRefs (τ := τ) (tV d L).2).erase (ref0 d L)).erase (ref1 d L)).erase (ref2 d L)).erase (ref3 d L))
              fun b => iprop(∃ f, ((d, b) : Loc nD τ sig) ↦{fullShare} f)) := by
  have h0 : ref0 d L ∈ ownRefs (τ := τ) (tV d L).2 := SparseCore.Cfg.mem_ownRefs_of_owner rfl
  have h1 : ref1 d L ∈ ownRefs (τ := τ) (tV d L).2 := SparseCore.Cfg.mem_ownRefs_of_owner rfl
  have h2 : ref2 d L ∈ ownRefs (τ := τ) (tV d L).2 := SparseCore.Cfg.mem_ownRefs_of_owner rfl
  have h3 : ref3 d L ∈ ownRefs (τ := τ) (tV d L).2 := SparseCore.Cfg.mem_ownRefs_of_owner rfl
  have ne {a b : Ref sig .scVector} (h : a ≠ b) : (tV d L).2.devRef a ≠ (tV d L).2.devRef b := fun e => h (Proc.devRef_injective _ e)
  have n10 : ref1 d L ≠ ref0 d L := ne (by decide)
  have n20 : ref2 d L ≠ ref0 d L := ne (by decide)
  have n21 : ref2 d L ≠ ref1 d L := ne (by decide)
  have n30 : ref3 d L ≠ ref0 d L := ne (by decide)
  have n31 : ref3 d L ≠ ref1 d L := ne (by decide)
  have n32 : ref3 d L ≠ ref2 d L := ne (by decide)
  unfold SparseCore.Cfg.ownBufs
  rw [SparseCore.bigSep_erase' (h0),
    SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

/-! ## The run -/

omit [FloatOps F] in
/-- A constant place below 512 is a place of a table. -/
theorem inb_const {b : BitVec 32} (h : b.toNat < 512) : ∀ (a : Fin 1) (x : S16.Idx), ((![broadcast S16 b] : Fin 1 → IVec S16 32) a x).toNat < S512.size a := by
  intro a x
  match a with
  | 0 => exact h

/-- What a subcore is handed: its block of entries, a share of the levels and of the thresholds, its block of the
    result at `o`. -/
def tileIn (q : PosShare TreeShare) (X : Buf (Elt F) (xLoc d)) (S : Buf (Elt F) (sLoc d)) (M : Buf (Elt F) (mLoc d)) (o : Buf (Elt F) (oLoc d)) : sProp 𝕄 :=
  iprop((xLoc d ↦[xSet L]{fullShare} X) ∗ (sLoc d ↦{q} S) ∗ (mLoc d ↦{q} M) ∗ (oLoc d ↦[oSet L]{fullShare} o))

/-- Every entry of a buffer quantised. -/
def quantAll (X : S131072.Idx → Elt F .f32) (S M : S512.Idx → Elt F .f32) : S131072.Idx → Elt F .f32 := fun j => quant M S (X j)

theorem emb_blocks (x : S4096.Idx) : (xK L).view.emb x = (oK L).view.emb x := by
  funext a
  apply Fin.ext
  have h : k1_off1 L = k1_off4 L := (k1_off1_eq L).trans (k1_off4_eq L).symm
  exact congrArg (· + 1 * (x a).val) (congrFun h a)

/-- The block as written out is the block's quantised entries. -/
theorem land_out {X : Buf (Elt F) (xLoc d)} {S : S512.Idx → Elt F .f32} {M : S512.Idx → Elt F .f32} (o : Buf (Elt F) (oLoc d)) {f pay : S4096.Idx → Elt F .f32}
    (hf : Done M S (fun j => X ((xK L).view.emb j)) f (64 * 64)) (h : pay = f) :
    ((oK L).view.loc (tV d L) ↦[(oK L).view.set]{fullShare} (oK L).view.writes (Elt F) o [⟨Rect.whole S4096, pay⟩] : sProp 𝕄)
      ⊢ oLoc d ↦[oSet L]{fullShare} quantAll X S M := by
  refine Entails.of_eq (pointsTo_congr fun i hi => ?_)
  obtain ⟨x, -, rfl⟩ := Finset.mem_map.mp hi
  subst h
  have e : (oK L).view.emb x = ((oK L).view.slice (Rect.whole S4096)).emb x := congrArg (oK L).view.emb (Rect.emb_whole_apply S4096 x).symm
  rw [View.writes_singleton, e]
  refine (View.write_emb_of_mem (v := (oK L).view.slice (Rect.whole S4096)) (Val := Elt F) o pay (Finset.mem_univ x)).trans ?_
  rw [← e]
  refine (cast_eq _ _).trans ((hf x ?_).trans ?_)
  · exact (x 0).isLt
  · show quant M S (X ((xK L).view.emb x)) = quant M S (X ((oK L).view.emb x))
    rw [emb_blocks]

/-- An indexed load of the thresholds continues at their gather. -/
theorem wp_at_mid {α : Type} {v : IVec S16 32} {h : ∀ a x, ((![v] : Fin 1 → IVec S16 32) a x).toNat < S512.size a}
    {hl : mW.view.Loads} {k : Vec F S16 .f32 → TileProg F d L α} {Q : α → sProp 𝕄} (M : Buf (Elt F) (mWLoc d L)) :
    (mWLoc d L ↦{fullShare} M : sProp 𝕄)
      ⊢ iprop(((mWLoc d L ↦{fullShare} M) -∗ wp frame (wpE (defs₀ (F := F)) 𝒱₀ (tV d L) none) Set.univ (k (gath M v)) Q)
          -∗ wp frame (wpE (defs₀ (F := F)) 𝒱₀ (tV d L) none) Set.univ (SparseCore.vectorLoadIdx mW ![v] h hl >>= k) Q) := by
  have t := SparseCore.wp_vectorLoadIdx (defs := defs₀ (F := F)) (h := h) (hl := hl) (k := k) (Q := Q) 𝒱₀ (tV d L) none Set.univ (base := mW) (S := Finset.univ) (q := fullShare) (f := M) (Finset.subset_univ _)
  have r : View.read (Elt F) (mW.access (Rect.whole S512)) M = M := Memref.read_access_whole _ _ _
  rw [r, loadIdx_eq M v h] at t
  exact t

omit [FloatOps F] in
/-- A scratch buffer written whole holds what was written. -/
theorem land_x (f : Buf (Elt F) (xWLoc d L)) {pay X : S4096.Idx → Elt F .f32} (h : pay = X) :
    (xW.view.loc (tV d L) ↦{fullShare} View.write (Elt F) xW.view f pay Finset.univ : sProp 𝕄) ⊢ xWLoc d L ↦{fullShare} X := by
  rw [View.write_whole_univ]; exact Entails.of_eq (by rw [h])
omit [FloatOps F] in
theorem land_s (f : Buf (Elt F) (sWLoc d L)) {pay S : S512.Idx → Elt F .f32} (h : pay = S) :
    (sW.view.loc (tV d L) ↦{fullShare} View.write (Elt F) sW.view f pay Finset.univ : sProp 𝕄) ⊢ sWLoc d L ↦{fullShare} S := by
  rw [View.write_whole_univ]; exact Entails.of_eq (by rw [h])
omit [FloatOps F] in
theorem land_m (f : Buf (Elt F) (mWLoc d L)) {pay M : S512.Idx → Elt F .f32} (h : pay = M) :
    (mW.view.loc (tV d L) ↦{fullShare} View.write (Elt F) mW.view f pay Finset.univ : sProp 𝕄) ⊢ mWLoc d L ↦{fullShare} M := by
  rw [View.write_whole_univ]; exact Entails.of_eq (by rw [h])

set_option maxHeartbeats 4000000 in
theorem tile_body (hF : (K (F := F)).Facts) (q : PosShare TreeShare) (X : Buf (Elt F) (xLoc d)) (S : Buf (Elt F) (sLoc d)) (M : Buf (Elt F) (mLoc d))
    (o : Buf (Elt F) (oLoc d)) (O : CellTallies nD τ sig (HIx 1)) (W : Waits sig (HIx 1)) (hO : ∀ g, O g none = 0) :
    iprop(levAts (K (F := F)).L (K (F := F)).lev ∗ emp ∗ tileIn d L q X S M o
        ∗ scopedBufs (tV d L) ∗ scopedSems0 (tV d L) ∗ owes (tV d L) O W)
      ⊢ wp frame (wpE (defs₀ (F := F)) 𝒱₀ (tV d L) none) Set.univ
          (cc1__quantize L xA (Memref.isWhole_whole _) sA (Memref.isWhole_whole _) mA (Memref.isWhole_whole _) oA (Memref.isWhole_whole _)
            xW (Memref.isWhole_whole _) sW (Memref.isWhole_whole _) mW (Memref.isWhole_whole _) qW (Memref.isWhole_whole _)
            cc1_scoped0 cc1_scoped1 cc1_scoped2 cc1_scoped3)
          fun _ => iprop(tileIn d L q X S M (quantAll X S M)
            ∗ scopedBufs (tV d L) ∗ scopedSems0 (tV d L)
            ∗ ∃ W', ⌜∀ p ∈ W', p ∈ W ∨ p.2 = none⌝ ∗ owes (tV d L) O W') := by
  simp only [cc1__quantize_eq_skeleton]; unfold cc1__quantize_skel
  simp only [k1_part12_eq_skeleton]; unfold k1_part12_skel
  rw [(K (F := F)).scopedBufs_V hF d (cV L) (jV L), SparseCore.Cfg.scopedSems0_V (Val := Elt F) d (cV L) (jV L), ownSems0_split, ownBufs_split]
  unfold tileIn
  simp only [Prog.lift, Prog.bind_assoc, Prog.bind_op, Prog.bind_ret, Prog.pure_eq_ret]
  iintro ⟨#Hlv, -, ⟨HX, HS, HM, Ho⟩, ⟨⟨%fx, HxW⟩, ⟨%fs, HsW⟩, ⟨%fm, HmW⟩, ⟨%fq, HqW⟩, Hbufs⟩, ⟨Hc0, Hc1, Hc2, Hc3, Hsems⟩, HO⟩
  ihave Hmw := (show levAts (K (F := F)).L (K (F := F)).lev ⊢ Transfers.MayWaits (tV d L) (default : HIx 1) O from
    (K (F := F)).mayWaits_none (thr := tV d L) hO) $$ Hlv
  ihave HX := (Entails.of_eq (show (xLoc d ↦[xSet L]{fullShare} X : sProp 𝕄) = (xK L).view.loc (tV d L) ↦[(xK L).view.set]{fullShare} X from rfl)) $$ HX
  ihave HS := (Entails.of_eq (show (sLoc d ↦{q} S : sProp 𝕄) = sA.view.loc (tV d L) ↦{q} S from rfl)) $$ HS
  ihave HM := (Entails.of_eq (show (mLoc d ↦{q} M : sProp 𝕄) = mA.view.loc (tV d L) ↦{q} M from rfl)) $$ HM
  ihave Ho := (Entails.of_eq (show (oLoc d ↦[oSet L]{fullShare} o : sProp 𝕄) = (oK L).view.loc (tV d L) ↦[(oK L).view.set]{fullShare} o from rfl)) $$ Ho
  ihave HxW := (Entails.of_eq (show (xWLoc d L ↦{fullShare} fx : sProp 𝕄) = xW.view.loc (tV d L) ↦{fullShare} fx from rfl)) $$ HxW
  ihave HsW := (Entails.of_eq (show (sWLoc d L ↦{fullShare} fs : sProp 𝕄) = sW.view.loc (tV d L) ↦{fullShare} fs from rfl)) $$ HsW
  ihave HmW := (Entails.of_eq (show (mWLoc d L ↦{fullShare} fm : sProp 𝕄) = mW.view.loc (tV d L) ↦{fullShare} fm from rfl)) $$ HmW
  ihave HqW := (Entails.of_eq (show (qWLoc d L ↦{fullShare} fq : sProp 𝕄) = qW.view.loc (tV d L) ↦{fullShare} fq from rfl)) $$ HqW
  sl_exec
  ihave HxW := (land_x d L fx (X := fun j => X ((xK L).view.emb j)) (by rfl)) $$ HxW
  ihave HsW := (land_s d L fs (S := S) (by rfl)) $$ HsW
  ihave HmW := (land_m d L fm (M := M) (by rfl)) $$ HmW
  iapply (wp_at_mid d L (v := broadcast S16 31#32) M) $$ HmW; iintro HmW
  iapply (wp_look_mid d L (inb_const (b := 63#32) (by decide)) (v := broadcast S16 63#32) M) $$ HmW; iintro HmW
  iapply (wp_look_mid d L (inb_const (b := 95#32) (by decide)) (v := broadcast S16 95#32) M) $$ HmW; iintro HmW
  iapply (wp_look_mid d L (inb_const (b := 127#32) (by decide)) (v := broadcast S16 127#32) M) $$ HmW; iintro HmW
  iapply (wp_look_mid d L (inb_const (b := 159#32) (by decide)) (v := broadcast S16 159#32) M) $$ HmW; iintro HmW
  iapply (wp_look_mid d L (inb_const (b := 191#32) (by decide)) (v := broadcast S16 191#32) M) $$ HmW; iintro HmW
  iapply (wp_look_mid d L (inb_const (b := 223#32) (by decide)) (v := broadcast S16 223#32) M) $$ HmW; iintro HmW
  iapply (wp_look_mid d L (inb_const (b := 255#32) (by decide)) (v := broadcast S16 255#32) M) $$ HmW; iintro HmW
  iapply (wp_look_mid d L (inb_const (b := 287#32) (by decide)) (v := broadcast S16 287#32) M) $$ HmW; iintro HmW
  iapply (wp_look_mid d L (inb_const (b := 319#32) (by decide)) (v := broadcast S16 319#32) M) $$ HmW; iintro HmW
  iapply (wp_look_mid d L (inb_const (b := 351#32) (by decide)) (v := broadcast S16 351#32) M) $$ HmW; iintro HmW
  iapply (wp_look_mid d L (inb_const (b := 383#32) (by decide)) (v := broadcast S16 383#32) M) $$ HmW; iintro HmW
  iapply (wp_look_mid d L (inb_const (b := 415#32) (by decide)) (v := broadcast S16 415#32) M) $$ HmW; iintro HmW
  iapply (wp_look_mid d L (inb_const (b := 447#32) (by decide)) (v := broadcast S16 447#32) M) $$ HmW; iintro HmW
  iapply (wp_look_mid d L (inb_const (b := 479#32) (by decide)) (v := broadcast S16 479#32) M) $$ HmW; iintro HmW
  sl_for (inv d L M S (fun j => X ((xK L).view.emb j))) $$ [HmW HsW HxW HqW]
  case region => exact fun t acc => wp_trip d L _ _ _ _ M S _ t acc
  · unfold inv
    isplitl [HmW]; · iexact HmW
    isplitl [HsW]; · iexact HsW
    isplitl [HxW]; · iexact HxW
    iexists fq; isplitr
    · ipureintro; intro j hj; exact absurd hj (by omega)
    iexact HqW
  iintro %_ HI
  unfold inv
  icases HI with ⟨HmW, HsW, HxW, %f, %hf, HqW⟩
  ihave HqW := (Entails.of_eq (show (qWLoc d L ↦{fullShare} f : sProp 𝕄) = qW.view.loc (tV d L) ↦{fullShare} f from rfl)) $$ HqW
  sl_exec
  sl_step
  isplitl [HX HS HM Ho]
  · isplitl [HX]; · iexact HX
    isplitl [HS]; · iexact HS
    isplitl [HM]; · iexact HM
    iapply (land_out d L o hf (by rfl)) $$ Ho
  isplitl [HxW HsW HmW HqW Hbufs]
  · isplitl [HxW]; · iexists _; iexact HxW
    isplitl [HsW]; · iexists _; iexact HsW
    isplitl [HmW]; · iexists _; iexact HmW
    isplitl [HqW]; · iexists _; iexact HqW
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Quantize

end
-- ==== Proof.Handshake.lean ====
/- What the call of the vector subcores hands over and brings back: each subcore its block of the entries, a share of
   the levels and of the thresholds, and its block of the results; all the pieces together are the whole buffers. -/
module

public import proofs.«01_k».proof.Proof.Tile
public import Idealize.ShloMosaic.Lib.ShareLeaves

@[expose] public section

set_option maxRecDepth 16384

noncomputable section

namespace Cert.Proof.Quantize

open Cert.KernelIdeal Cert.KernelIdeal.Gen

open Idealize.ShloMosaic
open Idealize.ShloMosaic.SparseCore (S V T bigSep_product)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 1) (Elt F) ℕ UU ℕ

/-- The place of a subcore in the launch grid. -/
def coordsV (c : Fin (grid1.bound 0)) (s : Fin (grid1.bound 1)) : grid1.Coords :=
  fun | 0 => c | 1 => s | ⟨_ + 2, h⟩ => absurd h (Nat.not_lt.2 (Nat.le_add_left _ _))

/-- The number of a subcore among all of them. -/
def num : Fin 2 × Fin 16 ≃ Fin (2 ^ 5) := finProdFinEquiv.trans (finCongr (by norm_num))

/-- A subcore's share of a buffer all of them read. -/
abbrev part (c : Fin 2) (s : Fin 16) : PosShare TreeShare := leaf 5 fullShare (num (c, s))

/-- A subcore's block of entries: 4096 of them in a row. -/
theorem mem_xSet (c : Fin 2) (s : Fin 16) (j : S131072.Idx) :
    j ∈ xSet (coordsV c s) ↔ 8192 * s.val + 4096 * c.val ≤ (j 0).val ∧ (j 0).val < 8192 * s.val + 4096 * c.val + 4096 := by
  have e : xSet (coordsV c s) = (Rect.unit (s := S131072) (k1_off1 (coordsV c s)) S4096.size (k1_off1_inb (coordsV c s))).set := by
    show ((View.whole (main_v8_scv : Ref sig .scVector)).slice _).set = _
    rw [View.set_slice]; exact Finset.map_refl
  rw [e, Rect.mem_set_unit]
  have h : k1_off1 (coordsV c s) 0 = 8192 * s.val + 4096 * c.val := congrFun (k1_off1_eq (coordsV c s)) 0
  constructor
  · intro H; have := H 0; rw [h] at this; exact this
  · intro H a
    rw [show a = 0 from Fin.ext (by have := a.isLt; show a.val = 0; exact Nat.lt_one_iff.mp this), h]
    exact H

theorem mem_oSet (c : Fin 2) (s : Fin 16) (j : S131072.Idx) :
    j ∈ oSet (coordsV c s) ↔ 8192 * s.val + 4096 * c.val ≤ (j 0).val ∧ (j 0).val < 8192 * s.val + 4096 * c.val + 4096 := by
  have e : oSet (coordsV c s) = (Rect.unit (s := S131072) (k1_off4 (coordsV c s)) S4096.size (k1_off4_inb (coordsV c s))).set := by
    show ((View.whole (main_v9_scv : Ref sig .scVector)).slice _).set = _
    rw [View.set_slice]; exact Finset.map_refl
  rw [e, Rect.mem_set_unit]
  have h : k1_off4 (coordsV c s) 0 = 8192 * s.val + 4096 * c.val := congrFun (k1_off4_eq (coordsV c s)) 0
  constructor
  · intro H; have := H 0; rw [h] at this; exact this
  · intro H a
    rw [show a = 0 from Fin.ext (by have := a.isLt; show a.val = 0; exact Nat.lt_one_iff.mp this), h]
    exact H

theorem oSet_eq (c : Fin 2) (s : Fin 16) : oSet (coordsV c s) = xSet (coordsV c s) :=
  Finset.ext fun j => (mem_oSet c s j).trans (mem_xSet c s j).symm

/-- A set of entries by its subcore's place. -/
abbrev block (p : Fin 2 × Fin 16) : Finset S131072.Idx := xSet (coordsV p.1 p.2)

theorem blocks_disjoint : ∀ p ∈ (Finset.univ : Finset (Fin 2 × Fin 16)), ∀ p' ∈ (Finset.univ : Finset (Fin 2 × Fin 16)),
    p ≠ p' → Disjoint (block p) (block p') := by
  rintro ⟨c, s⟩ - ⟨c', s'⟩ - h
  rw [Finset.disjoint_left]
  intro j hj hj'
  have h1 := (mem_xSet c s j).mp hj
  have h2 := (mem_xSet c' s' j).mp hj'
  have hc := c.isLt
  have hc' := c'.isLt
  apply h
  have e1 : s.val = s'.val := by omega
  have e2 : c.val = c'.val := by omega
  rw [Fin.ext e1, Fin.ext e2]

theorem blocks_cover : (Finset.univ : Finset (Fin 2 × Fin 16)).biUnion block = Finset.univ := by
  ext j
  simp only [Finset.mem_biUnion, Finset.mem_univ, true_and, iff_true]
  have hj : (j 0).val < 131072 := (j 0).isLt
  refine ⟨(⟨(j 0).val / 4096 % 2, by omega⟩, ⟨(j 0).val / 8192, by omega⟩), (mem_xSet _ _ j).mpr ?_⟩
  dsimp only
  omega

theorem bigSep_places (Φ : Fin 2 → Fin 16 → sProp 𝕄) :
    (bigSep Finset.univ fun p : Fin 2 × Fin 16 => Φ p.1 p.2) = bigSep Finset.univ fun c => bigSep Finset.univ fun s => Φ c s := by
  rw [← Finset.univ_product_univ, bigSep_product]

/-- A buffer of entries whole is its blocks. -/
theorem x_blocks (d : Dev nD) (X : Buf (Elt F) (xLoc d)) :
    (xLoc d ↦{fullShare} X : sProp 𝕄)
      = bigSep Finset.univ fun c : Fin 2 => bigSep Finset.univ fun s : Fin 16 => xLoc d ↦[xSet (coordsV c s)]{fullShare} X := by
  rw [← bigSep_places (fun c s => (xLoc d ↦[xSet (coordsV c s)]{fullShare} X : sProp 𝕄)),
    ← pointsTo_biUnion Finset.univ (ℓ := xLoc d) block blocks_disjoint, blocks_cover]

theorem o_blocks (d : Dev nD) (o : Buf (Elt F) (oLoc d)) :
    (oLoc d ↦{fullShare} o : sProp 𝕄)
      = bigSep Finset.univ fun c : Fin 2 => bigSep Finset.univ fun s : Fin 16 => oLoc d ↦[oSet (coordsV c s)]{fullShare} o := by
  simp only [oSet_eq]
  rw [← bigSep_places (fun c s => (oLoc d ↦[xSet (coordsV c s)]{fullShare} o : sProp 𝕄)),
    ← pointsTo_biUnion Finset.univ (ℓ := oLoc d) block blocks_disjoint, blocks_cover]

/-- A buffer whole is the shares the subcores read it at. -/
theorem shares {ℓ : Loc nD τ sig} (f : Buf (Elt F) ℓ) :
    (ℓ ↦{fullShare} f : sProp 𝕄) = bigSep Finset.univ fun c : Fin 2 => bigSep Finset.univ fun s : Fin 16 => ℓ ↦{part c s} f := by
  rw [← bigSep_places (fun c s => (ℓ ↦{part c s} f : sProp 𝕄)), pointsTo_leaves Finset.univ f 5 fullShare,
    bigSep_univ_equiv num]

/-- The four buffers whole are what the subcores take. -/
theorem whole_tiles (d : Dev nD) (X : Buf (Elt F) (xLoc d)) (S : Buf (Elt F) (sLoc d)) (M : Buf (Elt F) (mLoc d)) (o : Buf (Elt F) (oLoc d)) :
    (bigSep Finset.univ fun c : Fin 2 => bigSep Finset.univ fun s : Fin 16 => tileIn d (coordsV c s) (part c s) X S M o)
      = (iprop((xLoc d ↦{fullShare} X) ∗ (sLoc d ↦{fullShare} S) ∗ (mLoc d ↦{fullShare} M) ∗ (oLoc d ↦{fullShare} o)) : sProp 𝕄) := by
  unfold tileIn
  simp only [bigSep_sep']
  rw [← x_blocks, ← shares, ← shares, ← o_blocks]

/-! ## The handshakes' payloads -/

variable [FloatOps F] (v : Dev nD → Valuation τ sig (Elt F))

/-- What the subcores find in the four buffers, and what they leave in the last. -/
abbrev xIn (d : Dev nD) : S131072.Idx → Elt F .f32 := v d (Proc.devRef .tc main_v8)
abbrev sIn (d : Dev nD) : S512.Idx → Elt F .f32 := v d (Proc.devRef .tc main_v5)
abbrev mIn (d : Dev nD) : S512.Idx → Elt F .f32 := v d (Proc.devRef .tc main_v7)
abbrev oIn (d : Dev nD) : S131072.Idx → Elt F .f32 := v d (Proc.devRef .tc main_v9)
abbrev oOut (d : Dev nD) : S131072.Idx → Elt F .f32 := quantAll (xIn v d) (sIn v d) (mIn v d)

/-- A subcore's piece when it starts and when it is done. -/
abbrev goes (d : Dev nD) (c : Fin 2) (s : Fin 16) : sProp 𝕄 := tileIn d (coordsV c s) (part c s) (xIn v d) (sIn v d) (mIn v d) (oIn v d)
abbrev comes (d : Dev nD) (c : Fin 2) (s : Fin 16) : sProp 𝕄 := tileIn d (coordsV c s) (part c s) (xIn v d) (sIn v d) (mIn v d) (oOut v d)

instance tileIn_storable (d : Dev nD) (L : grid1.Coords) (q : PosShare TreeShare) (X : Buf (Elt F) (xLoc d)) (S : Buf (Elt F) (sLoc d)) (M : Buf (Elt F) (mLoc d))
    (o : Buf (Elt F) (oLoc d)) : BI.Storable (upEmb : UEmb _ 𝕄) (tileIn d L q X S M o) := by
  unfold tileIn; infer_instance

/-- The one call. -/
def P : (K (F := F)).Pay (nD := nD) (Val := Elt F) (Name := ℕ) (U := UU) where
  st := fun q d c => match q with | 0 => bigSep (Finset.univ : Finset (Fin 16)) fun i => goes v d c i
  dn := fun q d c => match q with | 0 => bigSep (Finset.univ : Finset (Fin 16)) fun i => comes v d c i
  go := fun q d c i => match q with | 0 => goes v d c i
  td := fun q d c i => match q with | 0 => comes v d c i
  x := fun _ _ => iprop(emp)

instance P_storable : (P (F := F) v).IsStorable where
  st q d c := match q with
    | 0 => have : ∀ i, BI.Storable (upEmb : UEmb _ 𝕄) (goes v d c i) := fun i => tileIn_storable d _ _ _ _ _ _
      BI.Storable.bigSep (upEmb : UEmb _ 𝕄) (Finset.univ : Finset (Fin 16)) (fun i => goes v d c i)
  dn q d c := match q with
    | 0 => have : ∀ i, BI.Storable (upEmb : UEmb _ 𝕄) (comes v d c i) := fun i => tileIn_storable d _ _ _ _ _ _
      BI.Storable.bigSep (upEmb : UEmb _ 𝕄) (Finset.univ : Finset (Fin 16)) (fun i => comes v d c i)
  go q d c i := match q with | 0 => tileIn_storable d _ _ _ _ _ _
  td q d c i := match q with | 0 => tileIn_storable d _ _ _ _ _ _

theorem defs₀_vector (c : Fin τ.nSC) (s : Fin τ.nSub) :
    defs₀ (F := F) (.scVector c s) 1 ()
      = SparseCore.onTile hcore1 hsub1 (fun c s => cc1__quantize (coordsV c s)
          xA (Memref.isWhole_whole _) sA (Memref.isWhole_whole _) mA (Memref.isWhole_whole _) oA (Memref.isWhole_whole _)
          xW (Memref.isWhole_whole _) sW (Memref.isWhole_whole _) mW (Memref.isWhole_whole _) qW (Memref.isWhole_whole _)
          cc1_scoped0 cc1_scoped1 cc1_scoped2 cc1_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore meets its part. -/
theorem tileObl (hF : (K (F := F)).Facts) : (K (F := F)).TileObl (D (F := F)) 𝒱 (P v) v₀ 0 := by
  intro d c i O W hO _ _
  simp only [show (P v).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (part c i) (xIn v d) (sIn v d) (mIn v d) (oIn v d) O W hO).trans
    (wp_mono frame _ _ fun _ => obl_post)

/-- A core's part is its subcores' parts. -/
theorem vecSplit : (K (F := F)).VecSplit' (P v) 0 := by
  intro d c
  show (bigSep (Finset.univ : Finset (Fin 16)) fun i => goes v d c i) ⊢ |={Set.univ}=> iprop(
      (bigSep (Finset.univ : Finset (Fin 16)) fun i => goes v d c i)
      ∗ ((bigSep (Finset.univ : Finset (Fin 16)) fun i => comes v d c i) -∗ bigSep (Finset.univ : Finset (Fin 16)) fun i => comes v d c i))
  iintro H; imodintro
  isplitl [H]; · iexact H
  iintro H; iexact H

theorem st0_eq (d : Dev nD) : (bigSep Finset.univ fun c : Fin ((K (F := F)).nCore 0) => (P v).st 0 d c)
    = (iprop((xLoc d ↦{fullShare} xIn v d) ∗ (sLoc d ↦{fullShare} sIn v d) ∗ (mLoc d ↦{fullShare} mIn v d) ∗ (oLoc d ↦{fullShare} oIn v d)) : sProp 𝕄) :=
  whole_tiles d _ _ _ _

theorem dn0_eq (d : Dev nD) : (bigSep Finset.univ fun c : Fin ((K (F := F)).nCore 0) => (P v).dn 0 d c)
    = (iprop((xLoc d ↦{fullShare} xIn v d) ∗ (sLoc d ↦{fullShare} sIn v d) ∗ (mLoc d ↦{fullShare} mIn v d) ∗ (oLoc d ↦{fullShare} oOut v d)) : sProp 𝕄) :=
  whole_tiles d _ _ _ _

end Cert.Proof.Quantize

end
-- ==== Proof.Main.lean ====
/- The main program on the tensor core: its host operations, its two kernels and the call of the vector subcores, with
   the contents of every buffer carried along. -/
module

public import proofs.«01_k».proof.Proof.Regions
public import proofs.«01_k».proof.Proof.Handshake

@[expose] public section

set_option maxRecDepth 16384

noncomputable section

namespace Cert.Proof.Quantize

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The host operations before the preparation kernel, between it and the call, and after the call. -/
def opsA : List (HloOp τ sig (Elt F)) :=
  [StableHlo.unary main_arg1 main_v0 (broadcastInDim S512x128 ![0, 1] bcast_S512x1_S512x128_0_1 : (⟨S512x1, .f32⟩ : BufTy).Contents (Elt F) → (⟨S512x128, .f32⟩ : BufTy).Contents (Elt F)),
   StableHlo.reshape main_arg1 main_v1 (rfl : (.f32 : EltTy) = .f32) shapeCasts_S512x1_S1x512,
   StableHlo.unary main_v1 main_v2 (broadcastInDim S8x512 ![0, 1] bcast_S1x512_S8x512_0_1 : (⟨S1x512, .f32⟩ : BufTy).Contents (Elt F) → (⟨S8x512, .f32⟩ : BufTy).Contents (Elt F))]

def opsB : List (HloOp τ sig (Elt F)) :=
  [StableHlo.unary main_v3 main_v4 ((extractStridedSlice S1x512 ![0, 0] · slices_S8x512_S1x512_0_0) : (⟨S8x512, .f32⟩ : BufTy).Contents (Elt F) → (⟨S1x512, .f32⟩ : BufTy).Contents (Elt F)),
   StableHlo.reshape main_v4 main_v5 (rfl : (.f32 : EltTy) = .f32) shapeCasts_S1x512_S512,
   StableHlo.unary main_v3 main_v6 ((extractStridedSlice S1x512 ![4, 0] · slices_S8x512_S1x512_4_0) : (⟨S8x512, .f32⟩ : BufTy).Contents (Elt F) → (⟨S1x512, .f32⟩ : BufTy).Contents (Elt F)),
   StableHlo.reshape main_v6 main_v7 (rfl : (.f32 : EltTy) = .f32) shapeCasts_S1x512_S512,
   StableHlo.reshape main_arg0 main_v8 (rfl : (.f32 : EltTy) = .f32) shapeCasts_S64x2048_S131072]

def opsC : List (HloOp τ sig (Elt F)) :=
  [StableHlo.reshape main_v9 main_v10 (rfl : (.f32 : EltTy) = .f32) shapeCasts_S131072_S64x2048,
   StableHlo.reshape main_arg3 main_v11 (rfl : (.f32 : EltTy) = .f32) shapeCasts_S1000_S1x1000,
   StableHlo.unary main_v11 main_v12 (broadcastInDim S8x1000 ![0, 1] bcast_S1x1000_S8x1000_0_1 : (⟨S1x1000, .f32⟩ : BufTy).Contents (Elt F) → (⟨S8x1000, .f32⟩ : BufTy).Contents (Elt F))]

theorem main_eq (d : Dev nD) : main (F := F) d
    = (StableHlo.seq opsA >>= fun _ => Prog.lift (.customCall (SparseCore.inner (Pipeline.entry 0)) ()) >>= fun _ =>
        StableHlo.seq opsB >>= fun _ => sc.run d 0 >>= fun _ =>
        StableHlo.seq opsC >>= fun _ => Prog.lift (.customCall (SparseCore.inner (Pipeline.entry 1)) ()) >>= fun _ => pure ⟨⟩) := by
  simp only [main, opsA, opsB, opsC, StableHlo.seq, bind_assoc, pure_bind]

/-! ## The contents between the stretches -/

variable (m : (ℓ : Loc nD τ sig) → Buf (Elt F) ℓ)

/-- At launch; before and after the preparation kernel; before and after the call; before and after the product. -/
def w0 (d : Dev nD) : Valuation τ sig (Elt F) := fun b => m (d, b)
def w1 (d : Dev nD) : Valuation τ sig (Elt F) := StableHlo.after opsA (w0 m d)
def w2 (d : Dev nD) : Valuation τ sig (Elt F) := afterPrep (w1 m d)
def w3 (d : Dev nD) : Valuation τ sig (Elt F) := StableHlo.after opsB (w2 m d)
def w4 (d : Dev nD) : Valuation τ sig (Elt F) := Function.update (w3 m d) (nm main_v9) (oOut (w3 m) d)
def w5 (d : Dev nD) : Valuation τ sig (Elt F) := StableHlo.after opsC (w4 m d)
def w6 (d : Dev nD) : Valuation τ sig (Elt F) := afterMm (w5 m d)

/-- The buffers the call works on. -/
def used : Finset (DevRef τ sig) := {nm main_v8, nm main_v5, nm main_v7, nm main_v9}

theorem mem_kept (b : Ref sig .tc) (h : b.isScoped = false) : nm b ∈ kept := by
  refine Finset.mem_filter.mpr ⟨Finset.mem_map.mpr ⟨b, Finset.mem_univ _, rfl⟩, ?_⟩
  show ¬ (b.isScoped = true)
  rw [h]; exact Bool.false_ne_true

theorem used_sub : used ⊆ kept := by
  intro b hb
  simp only [used, Finset.mem_insert, Finset.mem_singleton] at hb
  rcases hb with rfl | rfl | rfl | rfl <;> exact mem_kept _ rfl

theorem held_used (d : Dev nD) (v : Valuation τ sig (Elt F)) :
    (StableHlo.held (d : Thread nD τ) used v : sProp 𝕄)
      = iprop((xLoc d ↦{fullShare} (v (nm main_v8) : S131072.Idx → Elt F .f32)) ∗ (sLoc d ↦{fullShare} (v (nm main_v5) : S512.Idx → Elt F .f32))
          ∗ (mLoc d ↦{fullShare} (v (nm main_v7) : S512.Idx → Elt F .f32)) ∗ (oLoc d ↦{fullShare} (v (nm main_v9) : S131072.Idx → Elt F .f32))) := by
  unfold StableHlo.held used
  rw [SparseCore.bigSep_insert' (by decide), SparseCore.bigSep_insert' (by decide), SparseCore.bigSep_insert' (by decide), bigSep_singleton]

/-- The kept buffers before the call are what the call takes and the rest. -/
theorem held_before (d : Dev nD) :
    (StableHlo.held (d : Thread nD τ) kept (w3 m d) : sProp 𝕄)
      = iprop((bigSep Finset.univ fun c : Fin ((K (F := F)).nCore 0) => (P (w3 m)).st 0 d c) ∗ StableHlo.held (d : Thread nD τ) (kept \ used) (w3 m d)) := by
  rw [StableHlo.held_sub_split _ used_sub, held_used, st0_eq]

/-- … and after it what it brings back and the rest. -/
theorem held_after (d : Dev nD) :
    (iprop((bigSep Finset.univ fun c : Fin ((K (F := F)).nCore 0) => (P (w3 m)).dn 0 d c) ∗ StableHlo.held (d : Thread nD τ) (kept \ used) (w3 m d)) : sProp 𝕄)
      = StableHlo.held (d : Thread nD τ) kept (w4 m d) := by
  rw [StableHlo.held_sub_split _ used_sub, held_used, dn0_eq]
  have e8 : w4 m d (nm main_v8) = w3 m d (nm main_v8) := Function.update_of_ne (by decide) _ _
  have e5 : w4 m d (nm main_v5) = w3 m d (nm main_v5) := Function.update_of_ne (by decide) _ _
  have e7 : w4 m d (nm main_v7) = w3 m d (nm main_v7) := Function.update_of_ne (by decide) _ _
  have e9 : w4 m d (nm main_v9) = oOut (w3 m) d := Function.update_self _ _ _
  have er : (StableHlo.held (d : Thread nD τ) (kept \ used) (w4 m d) : sProp 𝕄) = StableHlo.held (d : Thread nD τ) (kept \ used) (w3 m d) := by
    refine StableHlo.held_congr _ fun b hb => Function.update_of_ne (fun e => ?_) _ _
    subst e
    exact (Finset.mem_sdiff.mp hb).2 (by unfold used; decide)
  rw [e8, e5, e7, e9, er]

/-! ## What the tensor core carries beside its buffers -/

/-- Its place in the handshakes, what it owes set apart. -/
def place' (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) : ((K (F := F)).tcSt EH d n : sProp 𝕄) = iprop(dues d n ∗ place' d n) := rfl

/-- The ghost state of one pipeline's staging cells on one device. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

/-- One of the two kernels called from the main program. -/
theorem wp_region [∀ e, Nonempty (Elt F e)] (n : ℕ) (v v' : Dev nD → Valuation τ sig (Elt F)) (p : Fin 2)
    (R : Pipeline.RegionSeg (pcfgs (F := F)) adm (dats n v) (none : HIx 1) (defs₀ (F := F)) 𝒱₀ (K (F := F)).L (K (F := F)).lev p)
    (hpre : R.pre = fun c : Dev nD => iprop(StableHlo.held (c : Thread nD τ) kept (v c) ∗ dues c n))
    (hpost : R.post = fun c : Dev nD => iprop(StableHlo.held (c : Thread nD τ) kept (v' c) ∗ dues c n)) (d : Dev nD) (Q : PUnit → sProp 𝕄) :
    iprop(levAts (K (F := F)).L (K (F := F)).lev ∗ ghost p d ∗ boundary (d : Thread nD τ) ∗ StableHlo.held (d : Thread nD τ) kept (v d) ∗ dues d n
        ∗ ((boundary (d : Thread nD τ) ∗ StableHlo.held (d : Thread nD τ) kept (v' d) ∗ dues d n) -∗ Q ⟨⟩))
      ⊢ wp frame (wpE ((K (F := F)).defs (D (F := F))) 𝒱 (d : Thread nD τ) none) Set.univ
          (Prog.lift (.customCall (SparseCore.inner (Pipeline.entry p)) ())) Q := by
  have key := Pipeline.RegionSeg.wp (pcfgs (F := F)) adm (dats n v) (none : HIx 1) cellOf_inj EP (defs₀ (F := F)) 𝒱₀ _ _ R d none
    (fun _ h => nomatch h) .ret Q
  rw [hpre, hpost] at key
  unfold ghost
  iintro ⟨Hl, ⟨Hg, Ht⟩, Hb, Hh, HO, Hk⟩
  iapply ((K (F := F)).wp_liftProg (D (F := F)) 𝒱 (d : Thread nD τ) Set.univ none
    (.op (.customCall (Pipeline.entry p) ()) .ret) Q)
  iapply key
  isplitl [Hk]
  · iintro ⟨Hb, Hh, HO⟩
    rw [wp_ret]
    imodintro
    iapply Hk
    isplitl [Hb]; · iexact Hb
    isplitl [Hh] <;> iassumption
  isplitl [Hb]; · iexact Hb
  isplitl [Hh HO]; · isplitl [Hh] <;> iassumption
  isplitl [Hl]; · iexact Hl
  isplitl [Hg] <;> iassumption

theorem opsA_kept : ∀ op ∈ opsA (F := F), op.bufs ⊆ kept := by
  intro op hop b hb
  simp only [opsA, List.mem_cons, List.not_mem_nil, or_false] at hop
  rcases hop with rfl | rfl | rfl <;>
    · simp only [StableHlo.unary_bufs, StableHlo.reshape_bufs, Finset.mem_insert, Finset.mem_singleton] at hb
      rcases hb with rfl | rfl <;> exact mem_kept _ rfl

theorem opsB_kept : ∀ op ∈ opsB (F := F), op.bufs ⊆ kept := by
  intro op hop b hb
  simp only [opsB, List.mem_cons, List.not_mem_nil, or_false] at hop
  rcases hop with rfl | rfl | rfl | rfl | rfl <;>
    · simp only [StableHlo.unary_bufs, StableHlo.reshape_bufs, Finset.mem_insert, Finset.mem_singleton] at hb
      rcases hb with rfl | rfl <;> exact mem_kept _ rfl

theorem opsC_kept : ∀ op ∈ opsC (F := F), op.bufs ⊆ kept := by
  intro op hop b hb
  simp only [opsC, List.mem_cons, List.not_mem_nil, or_false] at hop
  rcases hop with rfl | rfl | rfl <;>
    · simp only [StableHlo.unary_bufs, StableHlo.reshape_bufs, Finset.mem_insert, Finset.mem_singleton] at hb
      rcases hb with rfl | rfl <;> exact mem_kept _ rfl

theorem opsA_fresh : ∀ op ∈ opsA (F := F), op.fresh = ∅ := by
  intro op hop
  simp only [opsA, List.mem_cons, List.not_mem_nil, or_false] at hop
  rcases hop with rfl | rfl | rfl <;> rfl

theorem opsB_fresh : ∀ op ∈ opsB (F := F), op.fresh = ∅ := by
  intro op hop
  simp only [opsB, List.mem_cons, List.not_mem_nil, or_false] at hop
  rcases hop with rfl | rfl | rfl | rfl | rfl <;> rfl

theorem opsC_fresh : ∀ op ∈ opsC (F := F), op.fresh = ∅ := by
  intro op hop
  simp only [opsC, List.mem_cons, List.not_mem_nil, or_false] at hop
  rcases hop with rfl | rfl | rfl <;> rfl

/-- The main program on one device: every kept buffer goes from its launch contents to the last contents. -/
theorem hmain [∀ e, Nonempty (Elt F e)] (ρ : Dev nD → PrngReg) (κ : GSem nD τ sig → ℕ) (d : Dev nD) :
    iprop((K (F := F)).ctx EH (P (w3 m)) κ ∗ (K (F := F)).tcSt EH d 0 ∗ (K (F := F)).tcRes m ρ d ∗ (ghost 0 d ∗ ghost 1 d))
      ⊢ wp frame (wpE ((K (F := F)).defs (D (F := F))) 𝒱 (SparseCore.T d) none) Set.univ (main d)
          fun _ => iprop((K (F := F)).tcSt EH d 1 ∗ StableHlo.held (d : Thread nD τ) kept (w6 m d) ∗ (K (F := F)).tcEnd d) := by
  unfold SparseCore.Cfg.tcRes SparseCore.Cfg.tcEnd
  rw [show (unscopedBufs d (fun b => m ((SparseCore.T d).loc b)) : sProp 𝕄) = _ from unscoped_eq_held d (w0 m d), main_eq, tcSt_eq]
  iintro ⟨#Hctx, ⟨HO, Hp⟩, ⟨Hb, Hh, Hts, -⟩, Hg0, Hg1⟩
  ihave #Hl := (SparseCore.Cfg.ctx_levAts κ) $$ Hctx
  iapply (StableHlo.wp_seq 𝒱 none Set.univ d kept _ opsA opsA_kept opsA_fresh (w0 m d)) $$ [Hb Hh]
  · isplitl [Hb] <;> iassumption
  iintro ⟨Hb, Hh⟩
  rw [wp_bind]
  iapply (wp_region 0 (w1 m) (w2 m) 0 (prepRegion 0 (w1 m)) rfl rfl d _)
  isplitr; · iexact Hl
  isplitl [Hg0]; · iexact Hg0
  isplitl [Hb]; · iexact Hb
  isplitl [Hh]; · iexact Hh
  isplitl [HO]; · iexact HO
  iintro ⟨Hb, Hh, HO⟩
  iapply (StableHlo.wp_seq 𝒱 none Set.univ d kept _ opsB opsB_kept opsB_fresh (w2 m d)) $$ [Hb Hh]
  · isplitl [Hb] <;> iassumption
  iintro ⟨Hb, Hh⟩
  ihave Hh := (Entails.of_eq (show (StableHlo.held (d : Thread nD τ) kept (StableHlo.after opsB (w2 m d)) : sProp 𝕄) = _ from held_before m d)) $$ Hh
  icases Hh with ⟨Hst, Hr⟩
  rw [wp_bind]
  iapply ((K (F := F)).wp_run (D (F := F)) 𝒱 (EH := EH) (P := P (w3 m)) κ d 0) $$ [Hst HO Hp Hb Hts Hr Hg1]
  isplitr; · iexact Hctx
  isplitl [HO Hp]
  · iapply (Entails.of_eq (tcSt_eq d 0).symm); isplitl [HO] <;> iassumption
  isplitl [Hst]; · iexact Hst
  iintro ⟨Htc, Hdn⟩
  ihave Htc := (Entails.of_eq (tcSt_eq (F := F) d ((0 : Fin 1).val + 1))) $$ Htc
  icases Htc with ⟨HO, Hp⟩
  ihave Hh := (Entails.of_eq (held_after m d)) $$ [Hdn Hr]
  · isplitl [Hdn] <;> iassumption
  iapply (StableHlo.wp_seq 𝒱 none Set.univ d kept _ opsC opsC_kept opsC_fresh (w4 m d)) $$ [Hb Hh]
  · isplitl [Hb] <;> iassumption
  iintro ⟨Hb, Hh⟩
  rw [wp_bind]
  iapply (wp_region 1 (w5 m) (w6 m) 1 (mmRegion 1 (w5 m)) rfl rfl d _)
  isplitr; · iexact Hl
  isplitl [Hg1]; · iexact Hg1
  isplitl [Hb]; · iexact Hb
  isplitl [Hh]; · iexact Hh
  isplitl [HO]; · iexact HO
  iintro ⟨Hb, Hh, HO⟩
  rw [wp_pure]
  imodintro
  isplitl [HO Hp]
  · iapply (Entails.of_eq (tcSt_eq d 1).symm)
    isplitl [HO]; · iexact HO
    iexact Hp
  isplitl [Hh]; · iexact Hh
  isplitl [Hb] <;> iassumption

end Cert.Proof.Quantize

end
-- ==== Proof.Run.lean ====
/- The launch of the whole program, and the frame of both printings of it: it ends, nothing is in flight, the arguments are
   as they were, and the result is what the stretches of the main program make of them one after the other. -/
module

public import proofs.«01_k».proof.Proof.Main
public import proofs.«01_k».proof.Proof.Gen.Kernel
public import proofs.«01_k».proof.Proof.Gen.Pre_nearest_unique

@[expose] public section

set_option maxRecDepth 16384

noncomputable section

namespace Cert.Proof.Quantize

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The ghost state at launch -/

/-- The handshakes' rounds, both pipelines' rounds, no counter. -/
def u₀ : UU := (initOf (K (F := F)).hsCells (K (F := F)).hsToks,
  (initOf (Pipeline.cells (nD := nD) (Pipeline.pin (pcfgs (F := F)) adm) cellOf_inj) (Pipeline.launchToks (nD := nD) (Pipeline.pin (pcfgs (F := F)) adm) cellOf_inj), 1))

theorem ghosts : (iprop((bigSep Finset.univ fun c : Dev nD => bigSep Finset.univ fun p : Fin 2 => Pipeline.cellsGhost (Pipeline.pin (pcfgs (F := F)) adm) EP p c)
      ∗ (bigSep Finset.univ fun c : Dev nD => bigSep Finset.univ fun p : Fin 2 => Pipeline.toksInit (Pipeline.pin (pcfgs (F := F)) adm) EP p c)) : sProp 𝕄)
    = bigSep Finset.univ fun d : Dev nD => iprop(ghost 0 d ∗ ghost 1 d) := by
  rw [← bigSep_sep']
  refine bigSep_congr fun d _ => ?_
  rw [← bigSep_sep', show (Finset.univ : Finset (Fin 2)) = {0, 1} from rfl, SparseCore.bigSep_insert' (by decide), bigSep_singleton]
  rfl

theorem hu₀ : (ownU (u₀ (F := F)) : sProp 𝕄)
    ⊢ |={Set.univ}=> iprop(BI.own (EH (initOf (K (F := F)).hsCells (K (F := F)).hsToks)) ∗ (bigSep Finset.univ fun d : Dev nD => iprop(ghost (F := F) 0 d ∗ ghost 1 d))
        ∗ bigSep Finset.univ fun thr : Thread nD τ => bigSep Finset.univ fun q : Fin 1 => (P (F := F) (w3 m)).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (Pipeline.fund_ghost (Pipeline.pin (pcfgs (F := F)) adm) EP cellOf_inj) $$ HP with HG
  imodintro
  isplitl [HH]; · iexact HH
  isplitl [HG]; · iapply (Entails.of_eq ghosts); iexact HG
  rw [show (bigSep Finset.univ fun thr : Thread nD τ => bigSep Finset.univ fun q : Fin 1 => (P (F := F) (w3 m)).x q thr) = bigSep Finset.univ fun _ => iprop(emp) from
    bigSep_congr fun _ _ => bigSep_univ_of_subsingleton (0 : Fin 1)]
  iapply (Entails.of_eq (bigSep_emp_const _).symm)
  iempintro

/-! ## The last contents -/

/-- Every kept buffer at the end. -/
def last (d : Dev nD) (s' : Phys nD τ sig (Elt F)) : Prop := ∀ b : {b // b ∈ kept}, s'.mem.mem (d, b.1) = w6 m d b.1

theorem hfin (d : Dev nD) (s' : Phys nD τ sig (Elt F)) :
    iprop(StableHlo.held (d : Thread nD τ) kept (w6 m d) ∗ SI s') ⊢ (⌜last m d s'⌝ : sProp 𝕄) := by
  refine BIBase.Entails.trans (forall_intro fun b : {b // b ∈ kept} => ?_) (pure_forall (PROP := sProp 𝕄)).2
  iintro ⟨Hh, HSI⟩
  ihave H := (show (StableHlo.held (d : Thread nD τ) kept (w6 m d) : sProp 𝕄) ⊢ ((d, b.1) ↦{fullShare} w6 m d b.1) from
    bigSep_elim (Φ := fun b : DevRef τ sig => (((d, b) : Loc nD τ sig) ↦{fullShare} w6 m d b : sProp 𝕄)) b.2) $$ Hh
  ihave H := (SI_pointsTo_agree (st := s') (ℓ := ((d, b.1) : Loc nD τ sig)) (I := Finset.univ) (q := fullShare) (f := w6 m d b.1)) $$ [HSI H]
  · isplitl [HSI] <;> iassumption
  icases H with %h
  ipureintro
  exact funext fun i => h i (Finset.mem_univ i)

/-- The program from any memory: it ends, every kept buffer at its last contents and every semaphore at zero. -/
theorem run_main [∀ e, Nonempty (Elt F e)] (ρ : Dev nD → PrngReg) :
    θ_run (Cert.KernelIdeal.defs (F := F)) (Cert.KernelIdeal.threads (F := F)) ⟨m, fun _ => 0, ρ⟩
      (fun r => (∀ (d : Dev nD) (b : {b // b ∈ kept}), r.2.mem (d, b.1) = w6 m d b.1) ∧ r.2.sem = fun _ => 0) :=
  SparseCore.Cfg.θ_run_sc_quiescent (K := K (F := F)) (D := D (F := F)) (𝒱 := 𝒱) (EH := EH) (P := P (w3 m)) (A := ∅) facts v₀
    (fun q hq => match q with | 0 => nomatch hq)
    (fun q _ => match q with | 0 => tileObl (w3 m) facts)
    (fun q _ => match q with | 0 => SparseCore.Cfg.VecSplit.of_plain (vecSplit (w3 m)))
    m ρ main (fun d => iprop(ghost 0 d ∗ ghost 1 d)) (fun d => StableHlo.held (d : Thread nD τ) kept (w6 m d)) (u₀ (F := F))
    (sep_elim_left.trans (hu₀ m)) (hmain m ρ) (last m) (hfin m) _ (fun _ h hz => ⟨h, hz⟩)

/-! ## The arguments -/

/-- A buffer that nothing writes ends as it began. -/
theorem w6_arg (d : Dev nD) (r : Ref sig .tc)
    (h : r ∉ [main_v0, main_v1, main_v2, main_v3, main_v4, main_v5, main_v6, main_v7, main_v8, main_v9, main_v10, main_v11, main_v12, main_v13]) :
    w6 m d (nm r) = m (d, nm r) := by
  simp only [List.mem_cons, List.not_mem_nil, or_false, not_or] at h
  obtain ⟨h0, h1, h2, h3, h4, h5, h6, h7, h8, h9, h10, h11, h12, h13⟩ := h
  have hne : ∀ {b : Ref sig .tc}, r ≠ b → nm r ≠ nm b := fun hb e => hb (Proc.devRef_injective _ e)
  refine (Function.update_of_ne (hne h13) _ _).trans ?_
  refine (StableHlo.after_of_forall_not_mem opsC _ ?_).trans ?_
  · intro op hop
    simp only [opsC, List.mem_cons, List.not_mem_nil, or_false] at hop
    rcases hop with rfl | rfl | rfl <;> simp only [StableHlo.unary_writes, StableHlo.reshape_writes, Finset.mem_singleton] <;> apply hne <;> assumption
  refine (Function.update_of_ne (hne h9) _ _).trans ?_
  refine (StableHlo.after_of_forall_not_mem opsB _ ?_).trans ?_
  · intro op hop
    simp only [opsB, List.mem_cons, List.not_mem_nil, or_false] at hop
    rcases hop with rfl | rfl | rfl | rfl | rfl <;> simp only [StableHlo.unary_writes, StableHlo.reshape_writes, Finset.mem_singleton] <;> apply hne <;> assumption
  refine (Function.update_of_ne (hne h3) _ _).trans ?_
  refine (StableHlo.after_of_forall_not_mem opsA _ ?_).trans rfl
  · intro op hop
    simp only [opsA, List.mem_cons, List.not_mem_nil, or_false] at hop
    rcases hop with rfl | rfl | rfl <;> simp only [StableHlo.unary_writes, StableHlo.reshape_writes, Finset.mem_singleton] <;> apply hne <;> assumption

/-- What the run leaves in an argument and in the result. -/
theorem kept_arg {r : PUnit × MemSt nD τ sig (Elt F)} (h : ∀ (d : Dev nD) (b : {b // b ∈ kept}), r.2.mem (d, b.1) = w6 m d b.1) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3) :=
  ⟨(h d ⟨nm main_arg0, mem_kept _ rfl⟩).trans (w6_arg m d main_arg0 (by decide)),
   (h d ⟨nm main_arg1, mem_kept _ rfl⟩).trans (w6_arg m d main_arg1 (by decide)),
   (h d ⟨nm main_arg2, mem_kept _ rfl⟩).trans (w6_arg m d main_arg2 (by decide)),
   (h d ⟨nm main_arg3, mem_kept _ rfl⟩).trans (w6_arg m d main_arg3 (by decide))⟩

/-- The result's contents. -/
theorem kept_res {r : PUnit × MemSt nD τ sig (Elt F)} (h : ∀ (d : Dev nD) (b : {b // b ∈ kept}), r.2.mem (d, b.1) = w6 m d b.1) (d : Dev nD) :
    r.2.mem ((d.tc : Thread nD τ).loc main_v13) = w6 m d (nm main_v13) := h d ⟨nm main_v13, mem_kept _ rfl⟩

end Cert.Proof.Quantize

namespace Cert.Proof

open Idealize.ShloMosaic Idealize.SL.Sem

section Table

attribute [local instance] Cert.Kernel.Gen.facts

/-- The two printings have one table of kernel bodies. -/
theorem bodies_eq : Cert.Kernel.defs₀ (F := Bits) = Cert.KernelIdeal.defs₀ (F := Bits) := by
  funext p l a
  cases p with
  | tc => fin_cases l <;> rfl
  | scScalar c => rfl
  | scVector c s => fin_cases l <;> rfl

/-- Nor do they differ in what a thread may call. -/
theorem tables_eq : Cert.Kernel.defs (F := Bits) = Cert.KernelIdeal.defs (F := Bits) :=
  congrArg (fun D => (Cert.KernelIdeal.sc (F := Bits)).defs (Pipeline.defs Cert.KernelIdeal.pcfgs D)) bodies_eq

end Table

/-- The frame of the kernel as printed. -/
theorem frame_kernel : Cert.quiescent_Kernel (hKernel := Cert.Kernel.Gen.facts) := by
  intro m ρ _
  rw [tables_eq]
  exact (θ_run (Cert.KernelIdeal.defs (F := Bits)) (Cert.KernelIdeal.threads (F := Bits)) ⟨m, fun _ => 0, ρ⟩).mono
    (fun r h => (⟨fun c => Quantize.kept_arg (F := Bits) m h.1 c, h.2⟩ : _ ∧ _)) (Quantize.run_main (F := Bits) m ρ)

/-- The frame of the kernel over the extended reals, under no precondition. -/
theorem frame_kernelIdeal : Cert.quiescent_KernelIdeal (hKernelIdeal := Cert.KernelIdeal.Gen.facts) := fun m ρ _ =>
  (θ_run Cert.KernelIdeal.defs _ _).mono (fun _ h => ⟨fun c => Quantize.kept_arg (F := Ideal) m h.1 c, h.2⟩) (Quantize.run_main (F := Ideal) m ρ)

/-- The same for the inputs the value claim speaks of. -/
theorem frame_kernelIdeal_pre :
    Cert.quiescent_KernelIdeal_pre_nearest_unique (hKernelIdeal := Cert.KernelIdeal.Gen.facts) (hPre_nearest_unique := Cert.Pre_nearest_unique.Gen.facts) := fun m ρ _ =>
  frame_kernelIdeal m ρ (by trivial)

end Cert.Proof

end
-- ==== Proof.Value.lean ====
/- What the kernel's program leaves in its result, in terms of its four arguments. -/
module

public import proofs.«01_k».proof.Proof.Main

@[expose] public section

set_option maxRecDepth 16384

noncomputable section

namespace Cert.Proof.Quantize

open Cert.KernelIdeal Cert.KernelIdeal.Gen
open Idealize.ShloMosaic Idealize.ShloMosaic.TcCoe

variable {F : FTy → Type} [FloatOps F]

/-- The prepared table of the centers. -/
def table (c : FVec F S512x1 .f32) : FVec F S8x512 .f32 :=
  prepOut (broadcastInDim S512x128 ![0, 1] bcast_S512x1_S512x128_0_1 c)
    (broadcastInDim S8x512 ![0, 1] bcast_S1x512_S8x512_0_1 (shapeCast S1x512 c shapeCasts_S512x1_S1x512))

/-- Its row 0: the levels. -/
def levels (c : FVec F S512x1 .f32) : FVec F S512 .f32 :=
  shapeCast S512 (extractStridedSlice S1x512 ![0, 0] (table c) slices_S8x512_S1x512_0_0) shapeCasts_S1x512_S512

/-- Its row 4: the thresholds. -/
def thresholds (c : FVec F S512x1 .f32) : FVec F S512 .f32 :=
  shapeCast S512 (extractStridedSlice S1x512 ![4, 0] (table c) slices_S8x512_S1x512_4_0) shapeCasts_S1x512_S512

/-- Every entry of `x` quantised. -/
def quantised (x : FVec F S64x2048 .f32) (c : FVec F S512x1 .f32) : FVec F S64x2048 .f32 :=
  shapeCast S64x2048 (quantAll (shapeCast S131072 x shapeCasts_S64x2048_S131072) (levels c) (thresholds c)) shapeCasts_S131072_S64x2048

/-- The bias, once to a row. -/
def biasRows (b : FVec F S1000 .f32) : FVec F S8x1000 .f32 :=
  broadcastInDim S8x1000 ![0, 1] bcast_S1x1000_S8x1000_0_1 (shapeCast S1x1000 b shapeCasts_S1000_S1x1000)

variable (v : Valuation τ sig (Elt F))

theorem opsA_cols : StableHlo.after opsA v (nm main_v0) = broadcastInDim S512x128 ![0, 1] bcast_S512x1_S512x128_0_1 (v (nm main_arg1)) := by
  unfold opsA; after_results_simp

theorem opsA_rows : StableHlo.after opsA v (nm main_v2)
    = broadcastInDim S8x512 ![0, 1] bcast_S1x512_S8x512_0_1 (shapeCast S1x512 (v (nm main_arg1)) shapeCasts_S512x1_S1x512) := by
  unfold opsA; after_results_simp; rfl

theorem opsB_levels : StableHlo.after opsB v (nm main_v5)
    = shapeCast S512 (extractStridedSlice S1x512 ![0, 0] (v (nm main_v3)) slices_S8x512_S1x512_0_0) shapeCasts_S1x512_S512 := by
  unfold opsB; after_results_simp; rfl

theorem opsB_thresholds : StableHlo.after opsB v (nm main_v7)
    = shapeCast S512 (extractStridedSlice S1x512 ![4, 0] (v (nm main_v3)) slices_S8x512_S1x512_4_0) shapeCasts_S1x512_S512 := by
  unfold opsB; after_results_simp; rfl

theorem opsB_entries : StableHlo.after opsB v (nm main_v8) = shapeCast S131072 (v (nm main_arg0)) shapeCasts_S64x2048_S131072 := by
  unfold opsB; after_results_simp; rfl

theorem opsC_rounded : StableHlo.after opsC v (nm main_v10) = shapeCast S64x2048 (v (nm main_v9)) shapeCasts_S131072_S64x2048 := by
  unfold opsC; after_results_simp; rfl

theorem opsC_bias : StableHlo.after opsC v (nm main_v12) = biasRows (v (nm main_arg3)) := by
  unfold opsC; after_results_simp; rfl

/-- No line and no kernel before the product writes an argument. -/
theorem opsA_arg (b : Ref sig .tc) (h : b ∈ [main_arg0, main_arg1, main_arg2, main_arg3]) : StableHlo.after opsA v (nm b) = v (nm b) := by
  simp only [List.mem_cons, List.not_mem_nil, or_false] at h
  unfold opsA
  rcases h with rfl | rfl | rfl | rfl <;> after_results_simp
theorem opsB_arg (b : Ref sig .tc) (h : b ∈ [main_arg0, main_arg1, main_arg2, main_arg3]) : StableHlo.after opsB v (nm b) = v (nm b) := by
  simp only [List.mem_cons, List.not_mem_nil, or_false] at h
  unfold opsB
  rcases h with rfl | rfl | rfl | rfl <;> after_results_simp
theorem opsC_arg (b : Ref sig .tc) (h : b ∈ [main_arg0, main_arg1, main_arg2, main_arg3]) : StableHlo.after opsC v (nm b) = v (nm b) := by
  simp only [List.mem_cons, List.not_mem_nil, or_false] at h
  unfold opsC
  rcases h with rfl | rfl | rfl | rfl <;> after_results_simp

variable (m : (ℓ : Loc nD τ sig) → Buf (Elt F) ℓ) (d : Dev nD)

/-- An argument before the call. -/
theorem w2_arg (b : Ref sig .tc) (h : b ∈ [main_arg0, main_arg1, main_arg2, main_arg3]) : w2 m d (nm b) = m (d, nm b) := by
  have e : w1 m d (nm b) = m (d, nm b) := opsA_arg _ b h
  rw [← e]
  simp only [List.mem_cons, List.not_mem_nil, or_false] at h
  unfold w2 afterPrep
  rcases h with rfl | rfl | rfl | rfl <;> exact Function.update_of_ne (by decide) _ _

/-- An argument after the call. -/
theorem w4_arg (b : Ref sig .tc) (h : b ∈ [main_arg0, main_arg1, main_arg2, main_arg3]) : w4 m d (nm b) = m (d, nm b) := by
  have e : w3 m d (nm b) = m (d, nm b) := (opsB_arg _ b h).trans (w2_arg m d b h)
  rw [← e]
  simp only [List.mem_cons, List.not_mem_nil, or_false] at h
  rcases h with rfl | rfl | rfl | rfl <;> exact Function.update_of_ne (by decide) _ _

/-- The table after the preparation kernel. -/
theorem w2_table : w2 m d (nm main_v3) = table (m (d, nm main_arg1)) := by
  have e : w2 m d (nm main_v3) = prepOut (w1 m d (nm main_v0)) (w1 m d (nm main_v2)) := by
    unfold w2 afterPrep; exact Function.update_self _ _ _
  rw [e, w1, opsA_cols, opsA_rows]
  rfl

/-- The quantised entries after the call. -/
theorem w4_out : w4 m d (nm main_v9)
    = quantAll (shapeCast S131072 (m (d, nm main_arg0)) shapeCasts_S64x2048_S131072) (levels (m (d, nm main_arg1))) (thresholds (m (d, nm main_arg1))) := by
  have e : w4 m d (nm main_v9) = quantAll (w3 m d (nm main_v8)) (w3 m d (nm main_v5)) (w3 m d (nm main_v7)) := Function.update_self _ _ _
  rw [e, w3, opsB_entries, opsB_levels, opsB_thresholds, w2_table, w2_arg m d main_arg0 (by simp)]
  rfl

/-- The result: the matrix kernel on the quantised entries, the weights and the bias. -/
theorem w6_out : w6 m d (nm main_v13)
    = mmOut (quantised (m (d, nm main_arg0)) (m (d, nm main_arg1))) (m (d, nm main_arg2)) (biasRows (m (d, nm main_arg3))) := by
  have e : w6 m d (nm main_v13) = mmOut (w5 m d (nm main_v10)) (w5 m d (nm main_arg2)) (w5 m d (nm main_v12)) := by
    unfold w6 afterMm; exact Function.update_self _ _ _
  rw [e, w5, opsC_rounded, opsC_bias, opsC_arg _ main_arg2 (by simp), w4_out, w4_arg m d main_arg2 (by simp), w4_arg m d main_arg3 (by simp)]
  rfl

end Cert.Proof.Quantize

end
-- ==== Proof.Sorting.lean ====
module

public import proofs.«01_k».proof.Defs

/-
  Sorting a finite list of reals by counting: the place of an entry is the number of entries that come before it, ties going to the
  smaller position.
-/

@[expose] public section

noncomputable section

namespace Cert.Proof.Quantize

/-- Entry `j` comes before entry `i`: it is smaller, or equal and at a smaller position. -/
def Before {n : ℕ} (c : Fin n → ℝ) (j i : Fin n) : Prop := c j < c i ∨ (c j = c i ∧ j < i)

open Classical in
/-- How many entries come before entry `i`. -/
def rank {n : ℕ} (c : Fin n → ℝ) (i : Fin n) : ℕ := (Finset.univ.filter fun j => Before c j i).card

variable {n : ℕ} (c : Fin n → ℝ)

/-- Coming before is transitive. -/
theorem Before.trans {c : Fin n → ℝ} {i j k : Fin n} (h : Before c i j) (h' : Before c j k) : Before c i k := by
  rcases h with h | ⟨h, l⟩ <;> rcases h' with h' | ⟨h', l'⟩
  · exact Or.inl (h.trans h')
  · exact Or.inl (h.trans_eq h')
  · exact Or.inl (h.trans_lt h')
  · exact Or.inr ⟨h.trans h', l.trans l'⟩

/-- No entry comes before itself. -/
theorem not_before_self (i : Fin n) : ¬Before c i i := by
  rintro (h | ⟨_, h⟩) <;> exact lt_irrefl _ h

/-- Of two different entries one comes before the other. -/
theorem before_total {i j : Fin n} (h : i ≠ j) : Before c i j ∨ Before c j i := by
  rcases lt_trichotomy (c i) (c j) with l | e | l
  · exact Or.inl (Or.inl l)
  · rcases lt_or_gt_of_ne h with l | l
    · exact Or.inl (Or.inr ⟨e, l⟩)
    · exact Or.inr (Or.inr ⟨e.symm, l⟩)
  · exact Or.inr (Or.inl l)

/-- An entry that comes before another has the smaller place. -/
theorem rank_lt {i j : Fin n} (h : Before c i j) : rank c i < rank c j := by
  classical
  refine Finset.card_lt_card ⟨fun k hk => ?_, fun hs => ?_⟩
  · simp only [Finset.mem_filter, Finset.mem_univ, true_and] at hk ⊢
    exact hk.trans h
  · have := hs (by simpa using h : i ∈ Finset.univ.filter fun k => Before c k j)
    simp only [Finset.mem_filter, Finset.mem_univ, true_and] at this
    exact not_before_self c i this

/-- Places are below the number of entries. -/
theorem rank_lt_card (i : Fin n) : rank c i < n := by
  classical
  have : rank c i < (Finset.univ : Finset (Fin n)).card := by
    refine Finset.card_lt_card ⟨Finset.subset_univ _, fun hs => ?_⟩
    have := hs (Finset.mem_univ i)
    simp only [Finset.mem_filter, Finset.mem_univ, true_and] at this
    exact not_before_self c i this
  simpa using this

/-- The place of each entry, as a map of positions. -/
def placeOf (i : Fin n) : Fin n := ⟨rank c i, rank_lt_card c i⟩

/-- Different entries have different places. -/
theorem placeOf_injective : Function.Injective (placeOf c) := by
  intro i j h
  by_contra hne
  have e : rank c i = rank c j := congrArg Fin.val h
  rcases before_total c hne with l | l
  · exact absurd e (rank_lt c l).ne
  · exact absurd e (rank_lt c l).ne'

/-- Places as a permutation of the positions. -/
def places : Fin n ≃ Fin n := Equiv.ofBijective (placeOf c) (Finite.injective_iff_bijective.mp (placeOf_injective c))

/-- The entries in increasing order. -/
def sorted (k : Fin n) : ℝ := c ((places c).symm k)

/-- Position `i` goes to place `k` exactly when it is the one that the inverse names. -/
theorem rank_eq_iff (i k : Fin n) : rank c i = k.val ↔ i = (places c).symm k := by
  rw [Equiv.eq_symm_apply]
  exact ⟨fun h => Fin.ext h, fun h => congrArg Fin.val h⟩

/-- Every entry stands in the sorted list. -/
theorem exists_sorted (i : Fin n) : ∃ k, sorted c k = c i := ⟨places c i, by rw [sorted, Equiv.symm_apply_apply]⟩

/-- The sorted list increases. -/
theorem sorted_mono : Monotone (sorted c) := by
  intro k l h
  by_contra hlt
  have hb : Before c ((places c).symm l) ((places c).symm k) := Or.inl (not_le.mp hlt)
  have := rank_lt c hb
  rw [(rank_eq_iff c _ l).mpr rfl, (rank_eq_iff c _ k).mpr rfl] at this
  exact absurd h (not_le.mpr this)

/-- The number of entries before `i`, as a sum of ones and zeros. -/
theorem rank_eq_sum (i : Fin n) [∀ j, Decidable (Before c j i)] :
    ((rank c i : ℕ) : EReal) = ∑ j : Fin n, (if Before c j i then (1 : EReal) else 0) := by
  classical
  rw [rank, Finset.sum_boole]
  congr!

/-- Adding up the entries whose place is `k` gives the sorted list's entry `k`. -/
theorem sorted_eq_sum (k : Fin n) [∀ i, Decidable (rank c i = k.val)] :
    ((sorted c k : ℝ) : EReal) = ∑ i : Fin n, (if rank c i = k.val then (1 : EReal) else 0) * (c i : EReal) := by
  rw [Finset.sum_eq_single ((places c).symm k)]
  · rw [if_pos ((rank_eq_iff c _ k).mpr rfl), one_mul, sorted]
  · intro i _ hi
    rw [if_neg (fun h => hi ((rank_eq_iff c i k).mp h)), zero_mul]
  · intro h
    exact absurd (Finset.mem_univ _) h

end Cert.Proof.Quantize

end
-- ==== Proof.Words.lean ====
/- What the constant words of the two programs denote over the extended reals, and how a comparison's bit counts as a
   number. -/
module

public import proofs.«01_k».proof.Defs
public import Idealize.ShloMosaic.PureOps.Ideal.Laws

@[expose] public section

noncomputable section

namespace Cert.Proof.Quantize

open Idealize.ShloMosaic

theorem word_half : Ideal.ofBits .f32 0x3F000000#32 = ((1 / 2 : ℝ) : EReal) := by
  simp [Ideal.ofBits, Ideal.ieee, -EReal.coe_mul]; norm_num

theorem word_two : Ideal.ofBits .f32 0x40000000#32 = 2 := by
  have h : (2 : EReal) = ((2 : ℝ) : EReal) := rfl
  rw [h]
  simp [Ideal.ofBits, Ideal.ieee, -EReal.coe_mul]; norm_num

theorem word_top : Ideal.ofBits .f32 0x7F800000#32 = ⊤ := by
  simp [Ideal.ofBits, Ideal.ieee]

theorem word_bot : Ideal.ofBits .f32 0xFF800000#32 = ⊥ := by
  simp [Ideal.ofBits, Ideal.ieee]

/-- The temperature is a positive real. -/
theorem word_temperature : ∃ r : ℝ, 0 < r ∧ Ideal.ofBits .f32 0x3DCCCCCD#32 = (r : EReal) := by
  refine ⟨(13421773 : ℝ) * (2 : ℝ) ^ (-27 : ℤ), by positivity, ?_⟩
  simp [Ideal.ofBits, Ideal.ieee, -EReal.coe_mul]

open Classical in
/-- A bit widened to a word and read as a signed number is one or zero. -/
theorem sitofp_bit (P : Prop) [Decidable P] :
    (FloatOps.sitofp (F := Ideal) .f32 (BitVec.setWidth 32 (BitVec.ofBool (decide P))) : EReal) = if P then 1 else 0 := by
  show (((BitVec.setWidth 32 (BitVec.ofBool (decide P))).toInt : ℝ) : EReal) = _
  by_cases h : P <;> simp [h]

/-- A small number's word, read as a signed number, is that number. -/
theorem sitofp_small {k : ℕ} (h : k < 512) : (FloatOps.sitofp (F := Ideal) .f32 (BitVec.ofNat 32 k) : EReal) = (k : EReal) := by
  show (((BitVec.ofNat 32 k).toInt : ℝ) : EReal) = _
  have : (BitVec.ofNat 32 k).toInt = (k : ℤ) := by
    rw [BitVec.toInt_eq_toNat_of_lt (by rw [BitVec.toNat_ofNat]; omega), BitVec.toNat_ofNat, Nat.mod_eq_of_lt (by omega)]
  rw [this]
  simp

/-- The signed comparison of two small numbers' words. -/
theorem slt_small {a b : ℕ} (ha : a < 512) (hb : b < 512) :
    IntOp.cmpi .slt (BitVec.ofNat 32 a) (BitVec.ofNat 32 b) = BitVec.ofBool (decide (a < b)) := by
  have e (k : ℕ) (h : k < 512) : (BitVec.ofNat 32 k).toInt = (k : ℤ) := by
    rw [BitVec.toInt_eq_toNat_of_lt (by rw [BitVec.toNat_ofNat]; omega), BitVec.toNat_ofNat, Nat.mod_eq_of_lt (by omega)]
  show BitVec.ofBool ((BitVec.ofNat 32 a).slt (BitVec.ofNat 32 b)) = _
  rw [BitVec.slt, e a ha, e b hb]
  simp

/-- The words of two small numbers are equal exactly when the numbers are. -/
theorem ofNat_inj {a b : ℕ} (ha : a < 512) (hb : b < 512) : BitVec.ofNat 32 a = BitVec.ofNat 32 b ↔ a = b := by
  constructor
  · intro h
    have := congrArg BitVec.toNat h
    rwa [BitVec.toNat_ofNat, BitVec.toNat_ofNat, Nat.mod_eq_of_lt (by omega), Nat.mod_eq_of_lt (by omega)] at this
  · rintro rfl; rfl

/-- The disjunction and the conjunction of bits. -/
theorem ori_bit (P Q : Prop) [Decidable P] [Decidable Q] :
    IntOp.ori (BitVec.ofBool (decide P)) (BitVec.ofBool (decide Q)) = BitVec.ofBool (decide (P ∨ Q)) := by
  by_cases hP : P <;> by_cases hQ : Q <;> simp [hP, hQ, IntOp.ori]
theorem andi_bit (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ, IntOp.andi]

end Cert.Proof.Quantize

end
-- ==== Proof.Table.lean ====
/- The table that the first kernel prepares, read at an entry: for finite centers its rows 0 to 3 hold the centers in
   increasing order, its rows 4 to 7 the midpoints of neighbours, with `⊤` after the last. -/
module

public import proofs.«01_k».proof.Proof.Bodies
public import proofs.«01_k».proof.Proof.Sorting
public import proofs.«01_k».proof.Proof.Words
public import Idealize.ShloMosaic.Lib.Pointwise

@[expose] public section

set_option maxRecDepth 16384

noncomputable section

namespace Cert.Proof.Quantize

open Cert.KernelIdeal Cert.KernelIdeal.Gen Idealize.ShloMosaic Idealize.ShloMosaic.Pointwise

/-- The bit with which the kernel asks whether entry `j` comes before entry `i`. -/
theorem before_bit (c : Fin 512 → ℝ) (i j : Fin 512) [Decidable (Before c j i)] :
    IntOp.ori (BitVec.ofBool (decide ((c j : EReal) < (c i : EReal))))
      (IntOp.andi (BitVec.ofBool (decide ((c j : EReal) = (c i : EReal))))
        (IntOp.cmpi CmpIPredicate.slt (BitVec.ofNat 32 j.val) (BitVec.ofNat 32 i.val)))
      = BitVec.ofBool (decide (Before c j i)) := by
  rw [slt_small j.isLt i.isLt, andi_bit, ori_bit]
  congr 1
  simp only [Before, EReal.coe_lt_coe_iff, EReal.coe_eq_coe_iff, Fin.lt_def]

open Classical in
/-- The kernel's count of the entries before entry `i`. -/
theorem count_before (c : Fin 512 → ℝ) (i : Fin 512) :
    (∑ j : Fin 512, (FloatOps.sitofp (F := Ideal) .f32 (BitVec.setWidth 32
      (IntOp.ori (BitVec.ofBool (decide ((c j : EReal) < (c i : EReal))))
        (IntOp.andi (BitVec.ofBool (decide ((c j : EReal) = (c i : EReal))))
          (IntOp.cmpi CmpIPredicate.slt (BitVec.ofNat 32 j.val) (BitVec.ofNat 32 i.val))))) : EReal)) = (rank c i : EReal) := by
  rw [rank_eq_sum]
  exact Finset.sum_congr rfl fun j _ => by rw [before_bit, sitofp_bit]

open Classical in
/-- The kernel's sum of the entries whose place is `k`. -/
theorem sum_at (c : Fin 512 → ℝ) (k : Fin 512) (r : EReal) (hr : r = (k.val : EReal)) :
    (∑ i : Fin 512, (FloatOps.sitofp (F := Ideal) .f32 (BitVec.setWidth 32
      (BitVec.ofBool (decide (((rank c i : ℕ) : EReal) = r)))) : EReal) * (c i : EReal)) = (sorted c k : EReal) := by
  rw [sorted_eq_sum]
  refine Finset.sum_congr rfl fun i _ => ?_
  rw [sitofp_bit, hr]
  simp only [EReal.natCast_eq_iff]

variable {a : Vec Ideal S512x1 .f32} {b : Vec Ideal S1x512 .f32} {c : Fin 512 → ℝ}

/-- Row 0 of the table: the centers in increasing order. -/
theorem table_sorted (ha : ∀ i, a (ix2 i 0) = (c i : EReal)) (hb : ∀ i, b (ix2 0 i) = (c i : EReal)) (k : Fin 512) :
    k0_pay1 a b (ix2 (0 : Fin 8) k) = (sorted c k : EReal) := by
  pointwise [k0_pay1]
  simp only [ha, hb, count_before, sitofp_small k.isLt]
  exact sum_at c k _ rfl

/-- Row 4 of the table: the midpoints, ended by `⊤`. -/
theorem table_mid (ha : ∀ i, a (ix2 i 0) = (c i : EReal)) (hb : ∀ i, b (ix2 0 i) = (c i : EReal)) (k : Fin 512) :
    k0_pay1 a b (ix2 (4 : Fin 8) k)
      = if h : k.val + 1 < 512 then ((1 / 2 * (sorted c k + sorted c ⟨k.val + 1, h⟩) : ℝ) : EReal) else ⊤ := by
  pointwise [k0_pay1]
  simp only [ha, hb, count_before, sitofp_small k.isLt, word_top, word_half]
  by_cases h : k.val + 1 < 512
  · rw [dif_pos h]
    have hne : IntOp.cmpi CmpIPredicate.eq (BitVec.ofNat 32 k.val) 511#32 = 0#1 := by
      have : ¬BitVec.ofNat 32 k.val = 511#32 := fun e => by
        have := (ofNat_inj (b := 511) k.isLt (by omega)).mp e
        omega
      show BitVec.ofBool (BitVec.ofNat 32 k.val == 511#32) = 0#1
      rw [beq_false_of_ne this]; rfl
    rw [hne, sum_at c k _ rfl, sum_at c ⟨k.val + 1, h⟩ _ (by simp)]
    show ((1 / 2 : ℝ) : EReal) * _ = _
    norm_cast
  · rw [dif_neg h]
    have hk : k.val = 511 := by omega
    rw [hk]
    rfl

end Cert.Proof.Quantize

end
-- ==== Proof.Descent.lean ====
/- Where the search ends, over the extended reals: with increasing thresholds, every threshold before the position
   reached lies below the entry, and the threshold at the position, unless it is the last one, does not. -/
module

public import proofs.«01_k».proof.Proof.Search
public import Idealize.ShloMosaic.PureOps.Ideal.Laws

@[expose] public section

noncomputable section

namespace Cert.Proof.Quantize

open Cert.KernelIdeal Idealize.ShloMosaic

/-- Entry `n` of a table. -/
def at' (M : Vec Ideal S512 .f32) (n : ℕ) : EReal := M (ix (BitVec.ofNat 32 n))

/-- A position the search may hold: the threshold just before it, if any, lies below `x`; the last threshold of the
    `w` from it on, unless they end the table, does not. -/
def Bracket (M : Vec Ideal S512 .f32) (x : EReal) (w n : ℕ) : Prop :=
  n + w ≤ 512 ∧ (n ≠ 0 → at' M (n - 1) < x) ∧ (n + w < 512 → x ≤ at' M (n + w - 1))

/-- The comparison of the search, as one of extended reals. -/
theorem olt_iff (a b : EReal) : (FloatOps.cmpf (F := Ideal) (φ := .f32) .olt a b = 1#1) ↔ a < b := by
  rw [Ideal.cmpf_def]
  by_cases h : a < b <;> simp [Ideal.cmp, h]

variable {M : Vec Ideal S512 .f32} {x : EReal}

/-- The coarse steps count whole groups of 32 thresholds. -/
theorem coarse_spec (hM : ∀ a b, a ≤ b → b < 512 → at' M a ≤ at' M b) (n : ℕ) (hn : n ≤ 15) :
    ∃ k ≤ n, coarse (F := Ideal) M x n = BitVec.ofNat 32 (32 * k) ∧ (k ≠ 0 → at' M (32 * k - 1) < x)
      ∧ (k < n → x ≤ at' M (32 * k + 31)) := by
  induction n with
  | zero => exact ⟨0, le_rfl, rfl, fun h => absurd rfl h, fun h => absurd h (lt_irrefl _)⟩
  | succ n ih =>
    obtain ⟨k, hk, e, h1, h2⟩ := ih (by omega)
    by_cases hc : at' M (32 * n + 31) < x
    · have hkn : k = n := by
        by_contra hne
        have hlt : k < n := by omega
        exact absurd ((h2 hlt).trans (hM _ _ (by omega) (by omega))) (not_le.mpr hc)
      subst hkn
      refine ⟨k + 1, le_rfl, ?_, fun _ => ?_, fun h => absurd h (lt_irrefl _)⟩
      · rw [coarse, if_pos ((olt_iff (M (ix (BitVec.ofNat 32 (32 * k + 31)))) x).mpr hc), e, show (32#32) = BitVec.ofNat 32 32 from rfl, ← BitVec.ofNat_add]
        congr 1
      · rw [show 32 * (k + 1) - 1 = 32 * k + 31 by omega]; exact hc
    · refine ⟨k, by omega, ?_, h1, fun _ => ?_⟩
      · rw [coarse, if_neg (fun h => hc ((olt_iff (M (ix (BitVec.ofNat 32 (32 * n + 31)))) x).mp h)), e]
        exact BitVec.add_zero _
      · by_cases hkn : k = n
        · subst hkn; exact not_lt.mp hc
        · exact h2 (by omega)

/-- After the coarse steps the search holds a position with 32 thresholds to look at. -/
theorem coarse_bracket (hM : ∀ a b, a ≤ b → b < 512 → at' M a ≤ at' M b) :
    ∃ n, coarse (F := Ideal) M x 15 = BitVec.ofNat 32 n ∧ Bracket M x 32 n := by
  obtain ⟨k, hk, e, h1, h2⟩ := coarse_spec (M := M) (x := x) hM 15 le_rfl
  refine ⟨32 * k, e, by omega, fun h => h1 (by omega), fun h => ?_⟩
  rw [show 32 * k + 32 - 1 = 32 * k + 31 by omega]
  exact h2 (by omega)

/-- A halving step halves the thresholds to look at. -/
theorem fine_bracket {n w : ℕ} (hw : 0 < w) (h : Bracket M x (2 * w) n) :
    ∃ n', fine (F := Ideal) M x (BitVec.ofNat 32 (w - 1)) (BitVec.ofNat 32 w) (BitVec.ofNat 32 n) = BitVec.ofNat 32 n'
      ∧ Bracket M x w n' := by
  obtain ⟨h0, h1, h2⟩ := h
  have e : at' M (n + w - 1) = M (ix (BitVec.ofNat 32 n + BitVec.ofNat 32 (w - 1))) := by
    rw [at', ← BitVec.ofNat_add, show n + w - 1 = n + (w - 1) by omega]
  by_cases hc : at' M (n + w - 1) < x
  · refine ⟨n + w, ?_, by omega, fun _ => hc, fun hl => ?_⟩
    · rw [fine, if_pos ((olt_iff _ _).mpr (e ▸ hc)), ← BitVec.ofNat_add]
    · rw [show n + w + w - 1 = n + 2 * w - 1 by omega]; exact h2 (by omega)
  · refine ⟨n, ?_, by omega, h1, fun _ => not_lt.mp hc⟩
    rw [fine, if_neg (fun h => hc (e ▸ (olt_iff _ _).mp h))]

/-- The search ends at a position of the table whose thresholds enclose the entry. -/
theorem place_bracket (hM : ∀ a b, a ≤ b → b < 512 → at' M a ≤ at' M b) :
    ∃ n, place (F := Ideal) M x = BitVec.ofNat 32 n ∧ Bracket M x 1 n := by
  obtain ⟨n, e, h⟩ := coarse_bracket (M := M) (x := x) hM
  obtain ⟨n1, e1, h⟩ := fine_bracket (w := 16) (by omega) h
  obtain ⟨n2, e2, h⟩ := fine_bracket (w := 8) (by omega) h
  obtain ⟨n3, e3, h⟩ := fine_bracket (w := 4) (by omega) h
  obtain ⟨n4, e4, h⟩ := fine_bracket (w := 2) (by omega) h
  obtain ⟨n5, e5, h⟩ := fine_bracket (w := 1) (by omega) h
  refine ⟨n5, ?_, h⟩
  rw [← e5, ← e4, ← e3, ← e2, ← e1, ← e]
  rfl

end Cert.Proof.Quantize

end
-- ==== Proof.Nearest.lean ====
/- The position that midpoints enclose is a nearest one: over an increasing list of finite levels with the midpoints of
   neighbours as thresholds, the level whose thresholds enclose an entry, finite or not, has the smallest squared
   distance to it, with the distance spelled out as `x² − 2·(x·c) + c²`. -/
module

public import Mathlib.Data.EReal.Operations
public import Mathlib.Data.EReal.Inv
public import Mathlib.Tactic.Linarith
public import Mathlib.Tactic.Ring
public import Mathlib.Tactic.NormNum

@[expose] public section

noncomputable section

namespace Cert.Proof.Quantize

/-- The squared distance, multiplied out. -/
def dist2 (x c : EReal) : EReal := (x * x - 2 * (x * c)) + c * c

/-- At finite arguments it is the real number of the same form. -/
theorem dist2_coe (x c : ℝ) : dist2 (x : EReal) (c : EReal) = ((x * x - 2 * (x * c) + c * c : ℝ) : EReal) := by
  have : (2 : EReal) = ((2 : ℝ) : EReal) := rfl
  rw [dist2, this]
  norm_cast

/-- From `⊤` a positive level is at `⊥`. -/
theorem dist2_top_pos {c : ℝ} (h : 0 < c) : dist2 ⊤ (c : EReal) = ⊥ := by
  have h2 : (2 : EReal) = ((2 : ℝ) : EReal) := rfl
  rw [dist2, EReal.top_mul_coe_of_pos h, h2, EReal.coe_mul_top_of_pos (by norm_num), EReal.top_mul_top, ← EReal.coe_mul]
  simp [sub_eq_add_neg]

/-- From `⊤` a level that is not positive is at `⊤`. -/
theorem dist2_top_nonpos {c : ℝ} (h : c ≤ 0) : dist2 ⊤ (c : EReal) = ⊤ := by
  have h2 : (2 : EReal) = ((2 : ℝ) : EReal) := rfl
  rcases h.lt_or_eq with h | h
  · rw [dist2, EReal.top_mul_coe_of_neg h, h2, EReal.coe_mul_bot_of_pos (by norm_num), EReal.top_mul_top, ← EReal.coe_mul, EReal.top_sub_bot]
    exact EReal.top_add_coe _
  · subst h
    simp [dist2]

/-- From `⊥` a negative level is at `⊥`. -/
theorem dist2_bot_neg {c : ℝ} (h : c < 0) : dist2 ⊥ (c : EReal) = ⊥ := by
  have h2 : (2 : EReal) = ((2 : ℝ) : EReal) := rfl
  rw [dist2, EReal.bot_mul_coe_of_neg h, h2, EReal.coe_mul_top_of_pos (by norm_num), EReal.bot_mul_bot, ← EReal.coe_mul]
  simp [sub_eq_add_neg]

/-- From `⊥` a level that is not negative is at `⊤`. -/
theorem dist2_bot_nonneg {c : ℝ} (h : 0 ≤ c) : dist2 ⊥ (c : EReal) = ⊤ := by
  have h2 : (2 : EReal) = ((2 : ℝ) : EReal) := rfl
  rcases h.lt_or_eq with h | h
  · rw [dist2, EReal.bot_mul_coe_of_pos h, h2, EReal.coe_mul_bot_of_pos (by norm_num), EReal.bot_mul_bot, ← EReal.coe_mul, EReal.top_sub_bot]
    exact EReal.top_add_coe _
  · subst h
    simp [dist2]

/-- The level whose thresholds enclose an entry is a nearest one. -/
theorem nearest_of_enclosed {n : ℕ} (s : Fin n → ℝ) (hs : Monotone s) (p : Fin n) (x : EReal)
    (hlow : ∀ q : Fin n, q.val + 1 = p.val → ((1 / 2 * (s q + s p) : ℝ) : EReal) < x)
    (hhigh : ∀ q : Fin n, p.val + 1 = q.val → x ≤ ((1 / 2 * (s p + s q) : ℝ) : EReal)) (q : Fin n) :
    dist2 x (s p : EReal) ≤ dist2 x (s q : EReal) := by
  rcases lt_trichotomy q p with h | h | h
  · -- a level before the position: the one just before it is nearer, and still too far
    have hp : 0 < p.val := by have : q.val < p.val := h; omega
    have hlt := hlow ⟨p.val - 1, by omega⟩ (by simp; omega)
    have hq : s q ≤ s ⟨p.val - 1, by omega⟩ := hs (Fin.le_def.mpr (by have : q.val < p.val := h; simp; omega))
    have hqp : s q ≤ s p := hs h.le
    induction x with
    | bot => exact absurd hlt (not_lt.mpr bot_le)
    | coe x =>
      have hlt' := EReal.coe_lt_coe_iff.mp hlt
      rw [dist2_coe, dist2_coe, EReal.coe_le_coe_iff]
      nlinarith [mul_nonneg (sub_nonneg.mpr hqp) (show (0 : ℝ) ≤ 2 * x - s p - s q by linarith)]
    | top =>
      by_cases hpos : 0 < s p
      · rw [dist2_top_pos hpos]; exact bot_le
      · rw [dist2_top_nonpos (c := s q) (by linarith)]; exact le_top
  · rw [h]
  · have hp : p.val + 1 < n := by have : p.val < q.val := h; omega
    have hle := hhigh ⟨p.val + 1, hp⟩ rfl
    have hq : s ⟨p.val + 1, hp⟩ ≤ s q := hs (Fin.le_def.mpr (by have : p.val < q.val := h; simp; omega))
    have hqp : s p ≤ s q := hs h.le
    induction x with
    | top => exact absurd hle (not_le.mpr (EReal.coe_lt_top _))
    | coe x =>
      have hle' := EReal.coe_le_coe_iff.mp hle
      rw [dist2_coe, dist2_coe, EReal.coe_le_coe_iff]
      nlinarith [mul_nonneg (sub_nonneg.mpr hqp) (show (0 : ℝ) ≤ s p + s q - 2 * x by linarith)]
    | bot =>
      by_cases hneg : s p < 0
      · rw [dist2_bot_neg hneg]; exact bot_le
      · rw [dist2_bot_nonneg (c := s q) (by linarith)]; exact le_top

end Cert.Proof.Quantize

end
-- ==== Proof.Levels.lean ====
/- The kernel's quantised entry is a center that is nearest to the entry, when the centers are finite. -/
module

public import proofs.«01_k».proof.Proof.Value
public import proofs.«01_k».proof.Proof.Table
public import proofs.«01_k».proof.Proof.Descent
public import proofs.«01_k».proof.Proof.Nearest
public import Idealize.ShloMosaic.Lib.Pointwise

@[expose] public section

set_option maxRecDepth 16384

noncomputable section

namespace Cert.Proof.Quantize

open Cert.KernelIdeal Cert.KernelIdeal.Gen
open Idealize.ShloMosaic Idealize.ShloMosaic.TcCoe Idealize.ShloMosaic.Pointwise

/-- An entry is quantised on its own. -/
theorem quantised_apply (x : FVec Ideal S64x2048 .f32) (c : FVec Ideal S512x1 .f32) (i : Fin 64) (k : Fin 2048) :
    quantised x c (ix2 i k) = quant (thresholds c) (levels c) (x (ix2 i k)) := by
  pointwise [quantised, quantAll]

variable {c : FVec Ideal S512x1 .f32} {t : Fin 512 → ℝ} (hc : ∀ i : Fin 512, c (ix2 i 0) = (t i : EReal))

include hc

/-- A center is named by its number. -/
theorem center_at (i a : Fin 512) (h : a.val = i.val) : c (ix2 a 0) = (t i : EReal) := by
  rw [Fin.ext h]
  exact hc i

/-- The levels are the centers, sorted. -/
theorem levels_apply (n : Fin 512) : levels c (ix1 n) = (sorted t n : EReal) := by
  pointwise [levels, table, prepOut]
  rw [table_sorted (c := t)]
  · intro i
    exact center_at hc i _ (show 0 + 1 * i.val = i.val by omega)
  · intro i
    exact center_at hc i _ (show 0 + 1 * i.val = i.val by omega)

/-- The thresholds are the middles of neighbouring levels, and infinity last. -/
theorem thresholds_apply (n : Fin 512) : thresholds c (ix1 n)
    = if h : n.val + 1 < 512 then ((1/2 * (sorted t n + sorted t ⟨n.val + 1, h⟩) : ℝ) : EReal) else ⊤ := by
  pointwise [thresholds, table, prepOut]
  rw [table_mid (c := t)]
  · intro i
    exact center_at hc i _ (show 0 + 1 * i.val = i.val by omega)
  · intro i
    exact center_at hc i _ (show 0 + 1 * i.val = i.val by omega)

omit hc in
/-- The index that a small number names. -/
theorem ix_ofNat (n : Nat) (hn : n < 512) : ix (BitVec.ofNat 32 n) = ix1 ⟨n, hn⟩ := by
  have h : (BitVec.ofNat 32 n).toNat % 512 = n := by
    rw [BitVec.toNat_ofNat, Nat.mod_eq_of_lt (by omega : n < 2 ^ 32), Nat.mod_eq_of_lt hn]
  unfold ix
  funext a
  fin_cases a
  exact Fin.ext h

theorem at_thresholds (n : Nat) (hn : n < 512) : at' (thresholds c) n
    = if h : n + 1 < 512 then ((1/2 * (sorted t ⟨n, hn⟩ + sorted t ⟨n + 1, h⟩) : ℝ) : EReal) else ⊤ := by
  unfold at'
  rw [ix_ofNat n hn]
  exact thresholds_apply hc ⟨n, hn⟩

/-- The thresholds don't fall. -/
theorem thresholds_mono (a b : Nat) (hab : a ≤ b) (hb : b < 512) : at' (thresholds c) a ≤ at' (thresholds c) b := by
  rw [at_thresholds hc a (by omega), at_thresholds hc b hb]
  by_cases h : b + 1 < 512
  · rw [dif_pos h, dif_pos (by omega : a + 1 < 512), EReal.coe_le_coe_iff]
    have h1 := sorted_mono t (show (⟨a, by omega⟩ : Fin 512) ≤ ⟨b, hb⟩ from hab)
    have h2 := sorted_mono t (show (⟨a + 1, by omega⟩ : Fin 512) ≤ ⟨b + 1, h⟩ from Nat.succ_le_succ hab)
    linarith
  · rw [dif_neg h]; exact le_top

/-- What an entry is quantised to is a center, and no center is nearer to the entry. -/
theorem quant_spec (x : EReal) : ∃ a : Fin 512, quant (F := Ideal) (thresholds c) (levels c) x = c (ix2 a 0)
    ∧ ∀ q : Fin 512, dist2 x (c (ix2 a 0)) ≤ dist2 x (c (ix2 q 0)) := by
  obtain ⟨p, hp, hlt, hlow, hhigh⟩ := place_bracket (M := thresholds c) (x := x) (thresholds_mono hc)
  have hp512 : p < 512 := by omega
  have hv : quant (F := Ideal) (thresholds c) (levels c) x = (sorted t ⟨p, hp512⟩ : EReal) := by
    unfold quant
    rw [hp, ix_ofNat p hp512]
    exact levels_apply hc ⟨p, hp512⟩
  have ha : (sorted t ⟨p, hp512⟩ : EReal) = c (ix2 ((places t).symm ⟨p, hp512⟩) 0) := (hc _).symm
  have near := nearest_of_enclosed (sorted t) (sorted_mono t) ⟨p, hp512⟩ x
    (fun q hq => by
      have e : p - 1 = q.val := by have : q.val + 1 = p := hq; omega
      have h := hlow (by have : q.val + 1 = p := hq; omega)
      rw [e, at_thresholds hc q.val q.isLt, dif_pos (by have : q.val + 1 = p := hq; omega)] at h
      have e2 : (⟨q.val + 1, by have : q.val + 1 = p := hq; omega⟩ : Fin 512) = ⟨p, hp512⟩ := Fin.ext hq
      rw [e2] at h
      exact h)
    (fun q hq => by
      have h := hhigh (by have : p + 1 = q.val := hq; omega)
      rw [show p + 1 - 1 = p from rfl, at_thresholds hc p hp512, dif_pos (by have : p + 1 = q.val := hq; omega)] at h
      have e2 : (⟨p + 1, by have : p + 1 = q.val := hq; omega⟩ : Fin 512) = q := Fin.ext hq
      rw [e2] at h
      exact h)
  refine ⟨_, hv.trans ha, fun q => ?_⟩
  obtain ⟨k, hk⟩ := exists_sorted t q
  rw [← ha, hc q, ← hk]
  exact near k

end Cert.Proof.Quantize

end
-- ==== Proof.Reference.lean ====
/- The reference: what it computes, named in four steps, and its run. -/
module

public import proofs.«01_k».proof.Defs
public import proofs.«01_k».proof.Proof.Gen.ReferenceIdeal
public import proofs.«01_k».proof.Proof.Gen.Pre_nearest_unique
public import Idealize.ShloMosaic.Lib.Claim

@[expose] public section

set_option maxRecDepth 16384

noncomputable section

namespace Cert.Proof.Reference

open Cert.ReferenceIdeal Cert.ReferenceIdeal.Gen
open Idealize.ShloMosaic Idealize.SL.Sem

attribute [local instance] Cert.ReferenceIdeal.Gen.facts

variable {F : FTy → Type} [FloatOps F]

/-- The entries of `x`, one to a row. -/
def column (x : FVec F S64x2048 .f32) : FVec F S131072x1 .f32 := shapeCast S131072x1 x shapeCasts_S64x2048_S131072x1

/-- The squared distance of every entry to every center, as the text has it: `(x² - 2·x·c) + c²`. -/
def dist (x : FVec F S64x2048 .f32) (c : FVec F S512x1 .f32) : FVec F S131072x512 .f32 :=
  addf
    (subf
      (broadcastInDim S131072x512 ![0, 1] bcast_S131072x1_S131072x512_0_1
        (broadcastInDim S131072x1 ![0] bcast_S131072_S131072x1_0
          (Host.reduceAdd (mulf (column x) (column x)) (constant S_ .f32 0x00000000#32) reducesTo_S131072x1_S131072_d1 h_S_)))
      (mulf (broadcastInDim S131072x512 ![] bcast_S_S131072x512 (constant S_ .f32 0x40000000#32))
        (Host.dotGeneral dot_S131072x1_S1x512_S131072x512_1_0_0_1_n_n none (column x)
          (transpose S1x512 [1, 0] c transposes_S512x1_S1x512_1_0))))
    (broadcastInDim S131072x512 ![0, 1] bcast_S1x512_S131072x512_0_1
      (broadcastInDim S1x512 ![1] bcast_S512_S1x512_1
        (Host.reduceAdd (mulf c c) (constant S_ .f32 0x00000000#32) reducesTo_S512x1_S512_d1 h_S_)))

/-- The same over the temperature. -/
def scaled (x : FVec F S64x2048 .f32) (c : FVec F S512x1 .f32) : FVec F S131072x512 .f32 :=
  Host.divf (dist x c) (broadcastInDim S131072x512 ![] bcast_S_S131072x512 (constant S_ .f32 0x3DCCCCCD#32))

/-- The index of the smallest entry of every row. -/
def pick (v : FVec F S131072x512 .f32) : IVec S131072 32 := fun j =>
  (Host.argReduce reducer_argmin_f32_i32 v (iotaInDim S131072x512 32 1) (constant S_ .f32 0x7F800000#32) (constantI S_ 32 0#32)
    reducesTo_S131072x512_S131072_d1 h_S_ j).2

/-- The index of the nearest center of every entry. -/
def nearest (x : FVec F S64x2048 .f32) (c : FVec F S512x1 .f32) : IVec S131072 32 := pick (scaled x c)

/-- The one-hot rows of those indices. -/
def hot (n : IVec S131072 32) : FVec F S131072x512 .f32 :=
  uitofp .f32 (cmpi .eq
    (broadcastInDim S131072x512 ![0, 1] bcast_S131072x1_S131072x512_0_1 (broadcastInDim S131072x1 ![0] bcast_S131072_S131072x1_0 n))
    (broadcastInDim S131072x512 ![0, 1] bcast_S1x512_S131072x512_0_1 (iotaInDim S1x512 32 1)))

/-- The nearest centers themselves, in the shape of `x`. -/
def rounded (x : FVec F S64x2048 .f32) (c : FVec F S512x1 .f32) : FVec F S64x2048 .f32 :=
  shapeCast S64x2048 (Host.dotGeneral dot_S131072x512_S512x1_S131072x1_1_0_0_1_n_n none (hot (nearest x c)) c) shapeCasts_S131072x1_S64x2048

/-- The dense layer on them. -/
def dense (q : FVec F S64x2048 .f32) (W : FVec F S1000x2048 .f32) (b : FVec F S1000 .f32) : FVec F S64x1000 .f32 :=
  addf (Host.dotGeneral dot_S64x2048_S2048x1000_S64x1000_1_0_0_1_n_n none q (transpose S2048x1000 [1, 0] W transposes_S1000x2048_S2048x1000_1_0))
    (broadcastInDim S64x1000 ![0, 1] bcast_S1x1000_S64x1000_0_1 (broadcastInDim S1x1000 ![1] bcast_S1000_S1x1000_1 b))

/-! ## The run -/

/-- The lines of the reference. -/
def ops : List (HloOp τ sig (Elt F)) :=
  [StableHlo.reshape main_arg0 main_v0 (rfl : (.f32 : EltTy) = .f32) shapeCasts_S64x2048_S131072x1,
   StableHlo.binary main_v0 main_v0 main_v1 (mulf : (⟨S131072x1, .f32⟩ : BufTy).Contents (Elt F) → (⟨S131072x1, .f32⟩ : BufTy).Contents (Elt F) → (⟨S131072x1, .f32⟩ : BufTy).Contents (Elt F)),
   StableHlo.nullary main_cst (constant S_ .f32 0x00000000#32),
   StableHlo.binary main_v1 main_cst main_v2 ((fun x v => Host.reduceAdd x v reducesTo_S131072x1_S131072_d1 h_S_) : (⟨S131072x1, .f32⟩ : BufTy).Contents (Elt F) → (⟨S_, .f32⟩ : BufTy).Contents (Elt F) → (⟨S131072, .f32⟩ : BufTy).Contents (Elt F)),
   StableHlo.unary main_v2 main_v3 (broadcastInDim S131072x1 ![0] bcast_S131072_S131072x1_0 : (⟨S131072, .f32⟩ : BufTy).Contents (Elt F) → (⟨S131072x1, .f32⟩ : BufTy).Contents (Elt F)),
   StableHlo.binary main_arg1 main_arg1 main_v4 (mulf : (⟨S512x1, .f32⟩ : BufTy).Contents (Elt F) → (⟨S512x1, .f32⟩ : BufTy).Contents (Elt F) → (⟨S512x1, .f32⟩ : BufTy).Contents (Elt F)),
   StableHlo.nullary main_cst_0 (constant S_ .f32 0x00000000#32),
   StableHlo.binary main_v4 main_cst_0 main_v5 ((fun x v => Host.reduceAdd x v reducesTo_S512x1_S512_d1 h_S_) : (⟨S512x1, .f32⟩ : BufTy).Contents (Elt F) → (⟨S_, .f32⟩ : BufTy).Contents (Elt F) → (⟨S512, .f32⟩ : BufTy).Contents (Elt F)),
   StableHlo.unary main_arg1 main_v6 ((transpose S1x512 [1, 0] · transposes_S512x1_S1x512_1_0) : (⟨S512x1, .f32⟩ : BufTy).Contents (Elt F) → (⟨S1x512, .f32⟩ : BufTy).Contents (Elt F)),
   StableHlo.binary main_v0 main_v6 main_v7 ((fun l r => Host.dotGeneral dot_S131072x1_S1x512_S131072x512_1_0_0_1_n_n none l r) : (⟨S131072x1, .f32⟩ : BufTy).Contents (Elt F) → (⟨S1x512, .f32⟩ : BufTy).Contents (Elt F) → (⟨S131072x512, .f32⟩ : BufTy).Contents (Elt F)),
   StableHlo.nullary main_cst_1 (constant S_ .f32 0x40000000#32),
   StableHlo.unary main_cst_1 main_v8 (broadcastInDim S131072x512 ![] bcast_S_S131072x512 : (⟨S_, .f32⟩ : BufTy).Contents (Elt F) → (⟨S131072x512, .f32⟩ : BufTy).Contents (Elt F)),
   StableHlo.binary main_v8 main_v7 main_v9 (mulf : (⟨S131072x512, .f32⟩ : BufTy).Contents (Elt F) → (⟨S131072x512, .f32⟩ : BufTy).Contents (Elt F) → (⟨S131072x512, .f32⟩ : BufTy).Contents (Elt F)),
   StableHlo.unary main_v3 main_v10 (broadcastInDim S131072x512 ![0, 1] bcast_S131072x1_S131072x512_0_1 : (⟨S131072x1, .f32⟩ : BufTy).Contents (Elt F) → (⟨S131072x512, .f32⟩ : BufTy).Contents (Elt F)),
   StableHlo.binary main_v10 main_v9 main_v11 (subf : (⟨S131072x512, .f32⟩ : BufTy).Contents (Elt F) → (⟨S131072x512, .f32⟩ : BufTy).Contents (Elt F) → (⟨S131072x512, .f32⟩ : BufTy).Contents (Elt F)),
   StableHlo.unary main_v5 main_v12 (broadcastInDim S1x512 ![1] bcast_S512_S1x512_1 : (⟨S512, .f32⟩ : BufTy).Contents (Elt F) → (⟨S1x512, .f32⟩ : BufTy).Contents (Elt F)),
   StableHlo.unary main_v12 main_v13 (broadcastInDim S131072x512 ![0, 1] bcast_S1x512_S131072x512_0_1 : (⟨S1x512, .f32⟩ : BufTy).Contents (Elt F) → (⟨S131072x512, .f32⟩ : BufTy).Contents (Elt F)),
   StableHlo.binary main_v11 main_v13 main_v14 (addf : (⟨S131072x512, .f32⟩ : BufTy).Contents (Elt F) → (⟨S131072x512, .f32⟩ : BufTy).Contents (Elt F) → (⟨S131072x512, .f32⟩ : BufTy).Contents (Elt F)),
   StableHlo.nullary main_cst_2 (constant S_ .f32 0x3DCCCCCD#32),
   StableHlo.unary main_cst_2 main_v15 (broadcastInDim S131072x512 ![] bcast_S_S131072x512 : (⟨S_, .f32⟩ : BufTy).Contents (Elt F) → (⟨S131072x512, .f32⟩ : BufTy).Contents (Elt F)),
   StableHlo.binary main_v14 main_v15 main_v16 (Host.divf : (⟨S131072x512, .f32⟩ : BufTy).Contents (Elt F) → (⟨S131072x512, .f32⟩ : BufTy).Contents (Elt F) → (⟨S131072x512, .f32⟩ : BufTy).Contents (Elt F)),
   StableHlo.nullary main_call0_v0 (iotaInDim S131072x512 32 1),
   StableHlo.nullary main_call0_cst (constant S_ .f32 0x7F800000#32),
   StableHlo.nullary main_call0_c (constantI S_ 32 0#32),
   StableHlo.quaternary main_v16 main_call0_v0 main_call0_cst main_call0_c main_call0_v1_0 ((fun x y u v j => (Host.argReduce reducer_argmin_f32_i32 x y u v reducesTo_S131072x512_S131072_d1 h_S_ j).1) : (⟨S131072x512, .f32⟩ : BufTy).Contents (Elt F) → (⟨S131072x512, .i32⟩ : BufTy).Contents (Elt F) → (⟨S_, .f32⟩ : BufTy).Contents (Elt F) → (⟨S_, .i32⟩ : BufTy).Contents (Elt F) → (⟨S131072, .f32⟩ : BufTy).Contents (Elt F)),
   StableHlo.quaternary main_v16 main_call0_v0 main_call0_cst main_call0_c main_v17 ((fun x y u v j => (Host.argReduce reducer_argmin_f32_i32 x y u v reducesTo_S131072x512_S131072_d1 h_S_ j).2) : (⟨S131072x512, .f32⟩ : BufTy).Contents (Elt F) → (⟨S131072x512, .i32⟩ : BufTy).Contents (Elt F) → (⟨S_, .f32⟩ : BufTy).Contents (Elt F) → (⟨S_, .i32⟩ : BufTy).Contents (Elt F) → (⟨S131072, .i32⟩ : BufTy).Contents (Elt F)),
   StableHlo.unary main_v17 main_call1_v0 (broadcastInDim S131072x1 ![0] bcast_S131072_S131072x1_0 : (⟨S131072, .i32⟩ : BufTy).Contents (Elt F) → (⟨S131072x1, .i32⟩ : BufTy).Contents (Elt F)),
   StableHlo.nullary main_call1_v1 (iotaInDim S1x512 32 1),
   StableHlo.unary main_call1_v0 main_call1_v2 (broadcastInDim S131072x512 ![0, 1] bcast_S131072x1_S131072x512_0_1 : (⟨S131072x1, .i32⟩ : BufTy).Contents (Elt F) → (⟨S131072x512, .i32⟩ : BufTy).Contents (Elt F)),
   StableHlo.unary main_call1_v1 main_call1_v3 (broadcastInDim S131072x512 ![0, 1] bcast_S1x512_S131072x512_0_1 : (⟨S1x512, .i32⟩ : BufTy).Contents (Elt F) → (⟨S131072x512, .i32⟩ : BufTy).Contents (Elt F)),
   StableHlo.binary main_call1_v2 main_call1_v3 main_call1_v4 (cmpi .eq : (⟨S131072x512, .i32⟩ : BufTy).Contents (Elt F) → (⟨S131072x512, .i32⟩ : BufTy).Contents (Elt F) → (⟨S131072x512, .i1⟩ : BufTy).Contents (Elt F)),
   StableHlo.unary main_call1_v4 main_v18 (uitofp .f32 : (⟨S131072x512, .i1⟩ : BufTy).Contents (Elt F) → (⟨S131072x512, .f32⟩ : BufTy).Contents (Elt F)),
   StableHlo.binary main_v18 main_arg1 main_v19 ((fun l r => Host.dotGeneral dot_S131072x512_S512x1_S131072x1_1_0_0_1_n_n none l r) : (⟨S131072x512, .f32⟩ : BufTy).Contents (Elt F) → (⟨S512x1, .f32⟩ : BufTy).Contents (Elt F) → (⟨S131072x1, .f32⟩ : BufTy).Contents (Elt F)),
   StableHlo.reshape main_v19 main_v20 (rfl : (.f32 : EltTy) = .f32) shapeCasts_S131072x1_S64x2048,
   StableHlo.unary main_arg2 main_v21 ((transpose S2048x1000 [1, 0] · transposes_S1000x2048_S2048x1000_1_0) : (⟨S1000x2048, .f32⟩ : BufTy).Contents (Elt F) → (⟨S2048x1000, .f32⟩ : BufTy).Contents (Elt F)),
   StableHlo.binary main_v20 main_v21 main_v22 ((fun l r => Host.dotGeneral dot_S64x2048_S2048x1000_S64x1000_1_0_0_1_n_n none l r) : (⟨S64x2048, .f32⟩ : BufTy).Contents (Elt F) → (⟨S2048x1000, .f32⟩ : BufTy).Contents (Elt F) → (⟨S64x1000, .f32⟩ : BufTy).Contents (Elt F)),
   StableHlo.unary main_arg3 main_v23 (broadcastInDim S1x1000 ![1] bcast_S1000_S1x1000_1 : (⟨S1000, .f32⟩ : BufTy).Contents (Elt F) → (⟨S1x1000, .f32⟩ : BufTy).Contents (Elt F)),
   StableHlo.unary main_v23 main_v24 (broadcastInDim S64x1000 ![0, 1] bcast_S1x1000_S64x1000_0_1 : (⟨S1x1000, .f32⟩ : BufTy).Contents (Elt F) → (⟨S64x1000, .f32⟩ : BufTy).Contents (Elt F)),
   StableHlo.binary main_v22 main_v24 main_v25 (addf : (⟨S64x1000, .f32⟩ : BufTy).Contents (Elt F) → (⟨S64x1000, .f32⟩ : BufTy).Contents (Elt F) → (⟨S64x1000, .f32⟩ : BufTy).Contents (Elt F))]

/-- The program is those lines. -/
theorem main_seq (d : Dev nD) : main (F := F) d = StableHlo.seq ops := rfl

variable (m : (ℓ : Loc nD τ sig) → Buf (Elt F) ℓ)

/-- Every buffer at the end is what the lines make of it, and no semaphore has moved. -/
theorem run (ρ : Dev nD → PrngReg) :
    θ_run (defs (F := F)) (onTc (τ := τ) (main (F := F))) ⟨m, fun _ => 0, ρ⟩ (fun r =>
      (∀ (d : Dev nD) (b : Ref sig .tc), r.2.mem ((d.tc : Thread nD τ).loc b) = StableHlo.after ops (StableHlo.launchContents m d) (Proc.devRef .tc b))
      ∧ r.2.sem = fun _ => 0) :=
  (θ_run defs _ _).mono (fun r h => ⟨h, sem_eq_zero_of_no_sems (by decide) r.2⟩)
    (StableHlo.run_seq (by decide) (by decide) defs main (fun _ => ops) main_seq
      (fun _ => by simp only [ops, List.forall_cons, List.Forall, StableHlo.reshape_bufs_sub, StableHlo.unary_bufs_sub, StableHlo.binary_bufs_sub, StableHlo.nullary_bufs_sub, StableHlo.quaternary_bufs_sub, and_self]) m ρ)

/-- The result is the dense layer on the nearest centers. -/
theorem out_eq (w : Valuation τ sig (Elt F)) :
    StableHlo.after ops w (Proc.devRef .tc main_v25)
      = dense (rounded (w (Proc.devRef .tc main_arg0)) (w (Proc.devRef .tc main_arg1))) (w (Proc.devRef .tc main_arg2)) (w (Proc.devRef .tc main_arg3)) := by
  unfold ops
  after_results_simp
  rfl

/-- No line writes an argument. -/
theorem arg_eq (w : Valuation τ sig (Elt F)) (b : Ref sig .tc) (h : b ∈ [main_arg0, main_arg1, main_arg2, main_arg3]) :
    StableHlo.after ops w (Proc.devRef .tc b) = w (Proc.devRef .tc b) := by
  simp only [List.mem_cons, List.not_mem_nil, or_false] at h
  unfold ops
  rcases h with rfl | rfl | rfl | rfl <;> after_results_simp

end Cert.Proof.Reference

end
-- ==== Proof.Elements.lean ====
/- The reference's steps read at one entry, over the extended reals. -/
module

public import proofs.«01_k».proof.Proof.Reference
public import proofs.«01_k».proof.Proof.Nearest
public import proofs.«01_k».proof.Proof.Words
public import Idealize.ShloMosaic.Lib.Pointwise

@[expose] public section

set_option maxRecDepth 16384

noncomputable section

namespace Cert.Proof.Reference

open Cert.ReferenceIdeal Cert.ReferenceIdeal.Gen
open Idealize.ShloMosaic Idealize.ShloMosaic.Pointwise
open Cert.Proof.Quantize

attribute [local instance] Cert.ReferenceIdeal.Gen.facts

/-- Entry `r` of `x`, counted along its rows. -/
def entry (x : FVec Ideal S64x2048 .f32) (r : Fin 131072) : EReal :=
  x (ix2 ⟨r.val / 2048, by omega⟩ ⟨r.val % 2048, by omega⟩)

/-- The distance of entry `r` to center `q`. -/
theorem dist_apply (x : FVec Ideal S64x2048 .f32) (c : FVec Ideal S512x1 .f32) (r : Fin 131072) (q : Fin 512) :
    dist x c (ix2 r q) = dist2 (entry x r) (c (ix2 q 0)) := by
  pointwise [dist, column]
  simp only [Finset.univ_unique, Finset.sum_singleton, word_two]
  rfl

/-- The same over the temperature. -/
theorem scaled_apply (x : FVec Ideal S64x2048 .f32) (c : FVec Ideal S512x1 .f32) (r : Fin 131072) (q : Fin 512) :
    scaled x c (ix2 r q) = Ideal.div (dist2 (entry x r) (c (ix2 q 0))) (Ideal.ofBits .f32 0x3DCCCCCD#32) := by
  rw [← dist_apply]
  rfl

/-- A product with one-hot rows at row `r`. -/
theorem hot_dot (n : IVec S131072 32) (c : FVec Ideal S512x1 .f32) (r : Fin 131072) :
    Host.dotGeneral dot_S131072x512_S512x1_S131072x1_1_0_0_1_n_n none (hot n) c (ix2 r 0)
      = ∑ q : Fin 512, FloatOps.uitofp (F := Ideal) .f32 (IntOp.cmpi .eq (n (ix1 r)) (BitVec.ofNat 32 q.val)) * c (ix2 q 0) := by
  pointwise [hot]

/-- The column of all entries back in the shape of `x`. -/
theorem uncolumn (v : FVec Ideal S131072x1 .f32) (i : Fin 64) (k : Fin 2048) :
    shapeCast S64x2048 v shapeCasts_S131072x1_S64x2048 (ix2 i k) = v (ix2 ⟨i.val * 2048 + k.val, by omega⟩ 0) := by
  pointwise

/-- A one-hot row picks its center. -/
theorem hot_pick (n : IVec S131072 32) (c : FVec Ideal S512x1 .f32) (r : Fin 131072) (a : Fin 512) (h : n (ix1 r) = BitVec.ofNat 32 a.val) :
    Host.dotGeneral dot_S131072x512_S512x1_S131072x1_1_0_0_1_n_n none (hot n) c (ix2 r 0) = c (ix2 a 0) := by
  rw [hot_dot, h, Finset.sum_eq_single a]
  · have e : IntOp.cmpi .eq (BitVec.ofNat 32 a.val) (BitVec.ofNat 32 a.val) = 1#1 := by
      show BitVec.ofBool (BitVec.ofNat 32 a.val == BitVec.ofNat 32 a.val) = 1#1
      rw [beq_self_eq_true]; rfl
    have u : (FloatOps.uitofp (F := Ideal) .f32 (1#1 : BitVec 1) : EReal) = 1 := by
      show ((((1#1 : BitVec 1).toNat : ℝ)) : EReal) = 1
      simp
    rw [e, u, one_mul]
  · intro q _ hq
    have e : IntOp.cmpi .eq (BitVec.ofNat 32 a.val) (BitVec.ofNat 32 q.val) = 0#1 := by
      show BitVec.ofBool (BitVec.ofNat 32 a.val == BitVec.ofNat 32 q.val) = 0#1
      rw [beq_false_of_ne (fun he => hq (Fin.ext ((ofNat_inj a.isLt q.isLt).mp he)).symm)]; rfl
    have u : (FloatOps.uitofp (F := Ideal) .f32 (0#1 : BitVec 1) : EReal) = 0 := by
      show ((((0#1 : BitVec 1).toNat : ℝ)) : EReal) = 0
      simp
    rw [e, u, zero_mul]
  · intro h; exact absurd (Finset.mem_univ _) h

end Cert.Proof.Reference

end
-- ==== Proof.ArgMin.lean ====
/- The reference's index of the nearest center is the index of one with the smallest distance. -/
module

public import proofs.«01_k».proof.Proof.Elements

@[expose] public section

set_option maxRecDepth 16384

noncomputable section

namespace Cert.Proof.Reference

open Cert.ReferenceIdeal Cert.ReferenceIdeal.Gen
open Idealize.ShloMosaic Idealize.ShloMosaic.Pointwise
open Cert.Proof.Quantize

attribute [local instance] Cert.ReferenceIdeal.Gen.facts

/-- One step of the search for the minimum returns one of its two pairs, and its value is at most both. -/
theorem reducer_spec (a b : EReal × BitVec 32) :
    (reducer_argmin_f32_i32 (F := Ideal) a b = a ∨ reducer_argmin_f32_i32 (F := Ideal) a b = b)
      ∧ (reducer_argmin_f32_i32 (F := Ideal) a b).1 ≤ a.1 ∧ (reducer_argmin_f32_i32 (F := Ideal) a b).1 ≤ b.1 := by
  obtain ⟨u, i⟩ := a
  obtain ⟨v, j⟩ := b
  rcases lt_trichotomy u v with h | h | h
  · have e : reducer_argmin_f32_i32 (F := Ideal) (u, i) (v, j) = (u, i) := by
      simp [reducer_argmin_f32_i32, Ideal.cmpf_def, Ideal.cmp, h, h.ne, IntOp.ori, IntOp.andi, Scalar.select]
    rw [e]; exact ⟨Or.inl rfl, le_rfl, h.le⟩
  · subst h
    by_cases hs : IntOp.cmpi .slt i j = 1#1
    · have e : reducer_argmin_f32_i32 (F := Ideal) (u, i) (u, j) = (u, i) := by
        simp [reducer_argmin_f32_i32, Ideal.cmpf_def, Ideal.cmp, hs, IntOp.ori, IntOp.andi, Scalar.select]
      rw [e]; exact ⟨Or.inl rfl, le_rfl, le_rfl⟩
    · have hs0 : IntOp.cmpi .slt i j = 0#1 := by
        rcases BitVec.eq_zero_or_eq_one (IntOp.cmpi .slt i j) with h | h
        · exact h
        · exact absurd h hs
      have e : reducer_argmin_f32_i32 (F := Ideal) (u, i) (u, j) = (u, j) := by
        simp [reducer_argmin_f32_i32, Ideal.cmpf_def, Ideal.cmp, hs0, IntOp.ori, IntOp.andi, Scalar.select]
      rw [e]; exact ⟨Or.inr rfl, le_rfl, le_rfl⟩
  · have e : reducer_argmin_f32_i32 (F := Ideal) (u, i) (v, j) = (v, j) := by
      simp [reducer_argmin_f32_i32, Ideal.cmpf_def, Ideal.cmp, h.not_gt, h.ne', IntOp.ori, IntOp.andi, Scalar.select]
    rw [e]; exact ⟨Or.inr rfl, h.le, le_rfl⟩

/-- The search over a list returns one of its pairs, or the one it began with, and its value is the smallest. -/
theorem fold_spec (l : List (EReal × BitVec 32)) (s : EReal × BitVec 32) :
    (l.foldl (reducer_argmin_f32_i32 (F := Ideal)) s = s ∨ l.foldl (reducer_argmin_f32_i32 (F := Ideal)) s ∈ l)
      ∧ (l.foldl (reducer_argmin_f32_i32 (F := Ideal)) s).1 ≤ s.1
      ∧ ∀ p ∈ l, (l.foldl (reducer_argmin_f32_i32 (F := Ideal)) s).1 ≤ p.1 := by
  induction l generalizing s with
  | nil => exact ⟨Or.inl rfl, le_rfl, fun p hp => absurd hp List.not_mem_nil⟩
  | cons a l ih =>
    obtain ⟨hm, hs, hl⟩ := ih (reducer_argmin_f32_i32 (F := Ideal) s a)
    obtain ⟨hr, h1, h2⟩ := reducer_spec s a
    rw [List.foldl_cons]
    refine ⟨?_, hs.trans h1, fun p hp => ?_⟩
    · rcases hm with hm | hm
      · rw [hm]
        rcases hr with hr | hr
        · exact Or.inl hr
        · rw [hr]; exact Or.inr (List.mem_cons_self ..)
      · exact Or.inr (List.mem_cons_of_mem _ hm)
    · rcases List.mem_cons.mp hp with rfl | hp
      · exact hs.trans h2
      · exact hl p hp

/-- The source positions of row `r`. -/
theorem drop_row (r : Fin 131072) (i : S131072x512.Idx) :
    reducesTo_S131072x512_S131072_d1.drop i = ix1 r ↔ ∃ q : Fin 512, ix2 r q = i :=
  Shape.ReducesTo.fiber_r2_a1 reducesTo_S131072x512_S131072_d1 (ix1 r) i

/-- The pairs the search of row `r` goes through. -/
theorem mem_fiber (v : FVec Ideal S131072x512 .f32) (r : Fin 131072) (p : EReal × BitVec 32) :
    p ∈ Host.argReduceFiber v (iotaInDim S131072x512 32 1) reducesTo_S131072x512_S131072_d1 (ix1 r)
      ↔ ∃ q : Fin 512, p = (v (ix2 r q), BitVec.ofNat 32 q.val) := by
  rw [Host.argReduceFiber, List.mem_map]
  constructor
  · rintro ⟨n, hn, rfl⟩
    rw [List.mem_filter] at hn
    obtain ⟨q, hq⟩ := (drop_row r _).mp (of_decide_eq_true hn.2)
    refine ⟨q, ?_⟩
    rw [← hq]
    rfl
  · rintro ⟨q, rfl⟩
    refine ⟨S131072x512.rowMajor (ix2 r q), ?_, ?_⟩
    · rw [List.mem_filter]
      refine ⟨List.mem_finRange _, decide_eq_true ?_⟩
      rw [Equiv.symm_apply_apply]
      exact (drop_row r _).mpr ⟨q, rfl⟩
    · rw [Equiv.symm_apply_apply]
      rfl

/-- The choice, as a function of the row. -/
theorem pick_eq (v : FVec Ideal S131072x512 .f32) : pick v = fun j =>
    (Host.argReduce reducer_argmin_f32_i32 v (iotaInDim S131072x512 32 1) (constant S_ .f32 0x7F800000#32) (constantI S_ 32 0#32)
      reducesTo_S131072x512_S131072_d1 h_S_ j).2 := rfl

/-- The choice at row `r`. -/
theorem pick_apply (v : FVec Ideal S131072x512 .f32) (r : Fin 131072) : pick v (ix1 r) =
    (Host.argReduce reducer_argmin_f32_i32 v (iotaInDim S131072x512 32 1) (constant S_ .f32 0x7F800000#32) (constantI S_ 32 0#32)
      reducesTo_S131072x512_S131072_d1 h_S_ (ix1 r)).2 :=
  congrFun (pick_eq v) (ix1 r)

/-- The search of row `r`, on any array, returns the index of a smallest entry of the row. -/
theorem argmin_spec (v : FVec Ideal S131072x512 .f32) (r : Fin 131072) :
    ∃ a : Fin 512, pick v (ix1 r) = BitVec.ofNat 32 a.val
      ∧ ∀ q : Fin 512, (v (ix2 r a) : EReal) ≤ v (ix2 r q) := by
  rw [pick_apply, Ideal.argReduce_eq_reduce2, Host.reduce2_eq_foldl_fiber]
  obtain ⟨hm, -, hl⟩ := fold_spec (Host.argReduceFiber v (iotaInDim S131072x512 32 1) reducesTo_S131072x512_S131072_d1 (ix1 r))
    (constant (F := Ideal) S_ .f32 0x7F800000#32 (Shape.Idx.first h_S_), constantI S_ 32 0#32 (Shape.Idx.first h_S_))
  rcases hm with hm | hm
  · refine ⟨0, by rw [hm]; rfl, fun q => ?_⟩
    have := hl _ ((mem_fiber v r _).mpr ⟨q, rfl⟩)
    rw [hm] at this
    have ht : (constant (F := Ideal) S_ .f32 0x7F800000#32 (Shape.Idx.first h_S_) : EReal) = ⊤ := word_top
    have e : (v (ix2 r q) : EReal) = ⊤ := top_le_iff.mp (ht ▸ this)
    rw [e]; exact le_top
  · obtain ⟨a, ha⟩ := (mem_fiber v r _).mp hm
    refine ⟨a, by rw [ha], fun q => ?_⟩
    have := hl _ ((mem_fiber v r _).mpr ⟨q, rfl⟩)
    rw [ha] at this
    exact this

/-- Dividing by the temperature keeps the order. -/
theorem le_of_div_le {a b : EReal} (h : Ideal.div a (Ideal.ofBits .f32 0x3DCCCCCD#32) ≤ Ideal.div b (Ideal.ofBits .f32 0x3DCCCCCD#32)) : a ≤ b := by
  obtain ⟨t, ht, e⟩ := word_temperature
  rw [e, Ideal.div_coe ht.ne', Ideal.div_coe ht.ne'] at h
  have h' := mul_le_mul_of_nonneg_right h (show (0 : EReal) ≤ (t : EReal) by exact_mod_cast ht.le)
  have one : ((1 / t : ℝ) : EReal) * (t : EReal) = 1 := by
    rw [← EReal.coe_mul, one_div_mul_cancel ht.ne']; rfl
  rwa [mul_assoc, mul_assoc, one, mul_one, mul_one] at h'

/-- The reference's index names a center with the smallest distance. -/
theorem nearest_spec (x : FVec Ideal S64x2048 .f32) (c : FVec Ideal S512x1 .f32) (r : Fin 131072) :
    ∃ a : Fin 512, nearest x c (ix1 r) = BitVec.ofNat 32 a.val
      ∧ ∀ q : Fin 512, dist2 (entry x r) (c (ix2 a 0)) ≤ dist2 (entry x r) (c (ix2 q 0)) := by
  obtain ⟨a, h, hl⟩ := argmin_spec (scaled x c) r
  refine ⟨a, h, fun q => ?_⟩
  have := hl q
  rw [scaled_apply, scaled_apply] at this
  exact le_of_div_le this

/-- The rounded entry is a center with the smallest distance. -/
theorem rounded_spec (x : FVec Ideal S64x2048 .f32) (c : FVec Ideal S512x1 .f32) (i : Fin 64) (k : Fin 2048) (r : Fin 131072)
    (hr : r.val = i.val * 2048 + k.val) :
    ∃ a : Fin 512, rounded x c (ix2 i k) = c (ix2 a 0)
      ∧ ∀ q : Fin 512, dist2 (entry x r) (c (ix2 a 0)) ≤ dist2 (entry x r) (c (ix2 q 0)) := by
  obtain ⟨a, h, hl⟩ := nearest_spec x c r
  refine ⟨a, ?_, hl⟩
  rw [rounded, uncolumn, show (⟨i.val * 2048 + k.val, by omega⟩ : Fin 131072) = r from Fin.ext hr.symm]
  exact hot_pick _ c r a h

end Cert.Proof.Reference

end
-- ==== Proof.Unique.lean ====
/- The precondition decoded: every center is finite, and two centers that are both nearest to an entry are equal. -/
module

public import proofs.«01_k».proof.Proof.Elements
public import Idealize.ShloMosaic.Lib.ReduceAll

@[expose] public section

set_option maxRecDepth 16384

noncomputable section

namespace Cert.Proof.Unique

open Cert.Pre_nearest_unique Cert.Pre_nearest_unique.Facts
open Idealize.ShloMosaic Idealize.ShloMosaic.Pointwise
open Cert.Proof.Quantize

attribute [local instance] Cert.Pre_nearest_unique.Gen.facts Cert.ReferenceIdeal.Gen.facts

/-- The centers that are nearest to an entry, marked. -/
def near (D : FVec Ideal S131072x512 .f32) : IVec S131072x512 1 :=
  cmpf .ole D (broadcastInDim S131072x512 ![0, 1] bcast_S131072x1_S131072x512_0_1
    (broadcastInDim S131072x1 ![0] bcast_S131072_S131072x1_0
      (Host.reduce FloatOps.minimumf D (constant S_ .f32 0x7F800000#32) reducesTo_S131072x512_S131072_d1 h_S_)))

/-- The smallest of the marked centers of every entry. -/
def low (N : IVec S131072x512 1) (c : FVec Ideal S512x1 .f32) : FVec Ideal S131072 .f32 :=
  Host.reduce FloatOps.minimumf
    (select N (broadcastInDim S131072x512 ![0, 1] bcast_S1x512_S131072x512_0_1 (shapeCast S1x512 c shapeCasts_S512x1_S1x512))
      (broadcastInDim S131072x512 ![] bcast_S_S131072x512 (constant S_ .f32 0x7F800000#32)))
    (constant S_ .f32 0x7F800000#32) reducesTo_S131072x512_S131072_d1 h_S_

/-- The greatest of them. -/
def high (N : IVec S131072x512 1) (c : FVec Ideal S512x1 .f32) : FVec Ideal S131072 .f32 :=
  Host.reduce FloatOps.maximumf
    (select N (broadcastInDim S131072x512 ![0, 1] bcast_S1x512_S131072x512_0_1 (shapeCast S1x512 c shapeCasts_S512x1_S1x512))
      (broadcastInDim S131072x512 ![] bcast_S_S131072x512 (constant S_ .f32 0xFF800000#32)))
    (constant S_ .f32 0xFF800000#32) reducesTo_S131072x512_S131072_d1 h_S_

/-- The centers that are finite, marked. -/
def finite (c : FVec Ideal S512x1 .f32) : IVec S512x1 1 :=
  cmpf .olt (Host.absf c) (broadcastInDim S512x1 ![] bcast_S_S512x1 (constant S_ .f32 0x7F800000#32))

/-- The precondition, from the distances. -/
def both (D : FVec Ideal S131072x512 .f32) (c : FVec Ideal S512x1 .f32) : IVec S_ 1 :=
  andi (Host.reduce IntOp.andi (finite c) (constantI S_ 1 1#1) reducesTo_S512x1_S_d0_1 h_S_)
    (Host.reduce IntOp.andi (cmpf .oeq (low (near D) c) (high (near D) c)) (constantI S_ 1 1#1) reducesTo_S131072_S_d0 h_S_)

/-- The precondition is that, of the reference's distances. -/
theorem fn_eq (x : FVec Ideal S64x2048 .f32) (c : FVec Ideal S512x1 .f32) (W : FVec Ideal S1000x2048 .f32) (b : FVec Ideal S1000 .f32) :
    fn x c W b = both (Reference.dist x c) c := rfl

theorem near_apply (D : FVec Ideal S131072x512 .f32) (r : Fin 131072) (q : Fin 512) :
    near D (ix2 r q) = BitVec.ofBool (decide ((D (ix2 r q) : EReal) ≤ Finset.univ.fold min ⊤ fun k : Fin 512 => (D (ix2 r k) : EReal))) := by
  pointwise [near]
  rw [word_top]

theorem low_apply (N : IVec S131072x512 1) (c : FVec Ideal S512x1 .f32) (r : Fin 131072) :
    low N c (ix1 r) = Finset.univ.fold min ⊤ fun k : Fin 512 => Scalar.select (N (ix2 r k)) (c (ix2 k 0) : EReal) ⊤ := by
  pointwise [low]
  rw [word_top]

theorem high_apply (N : IVec S131072x512 1) (c : FVec Ideal S512x1 .f32) (r : Fin 131072) :
    high N c (ix1 r) = Finset.univ.fold max ⊥ fun k : Fin 512 => Scalar.select (N (ix2 r k)) (c (ix2 k 0) : EReal) ⊥ := by
  pointwise [high]
  rw [word_bot]

theorem finite_apply (c : FVec Ideal S512x1 .f32) (q : Fin 512) :
    finite c (ix2 q 0) = BitVec.ofBool (decide (max (c (ix2 q 0) : EReal) (-c (ix2 q 0)) < ⊤)) := by
  pointwise [finite]
  rw [word_top, Ideal.absf_def]

theorem equal_apply (L H : FVec Ideal S131072 .f32) (i : S131072.Idx) :
    cmpf .oeq L H i = BitVec.ofBool (decide ((L i : EReal) = H i)) := rfl

/-- A bit that is one marks something true. -/
theorem of_bit {P : Prop} [Decidable P] (h : BitVec.ofBool (decide P) = 1#1) : P := by
  by_contra hP
  rw [decide_eq_false hP] at h
  exact absurd h (by decide)

/-- What the precondition says of any distances: the centers are finite, … -/
theorem both_finite {D : FVec Ideal S131072x512 .f32} {c : FVec Ideal S512x1 .f32} (h : both D c = fun _ => 1#1) (q : Fin 512) :
    ∃ t : ℝ, c (ix2 q 0) = (t : EReal) := by
  have h0 := (IntOp.andi_eq_one.1 (congrFun h ix0)).1
  have h1 := Host.reduce_andi_all _ _ _ _ _ h0 (ix2 q 0)
  rw [finite_apply] at h1
  have h2 := of_bit h1
  have h3 : (c (ix2 q 0) : EReal) < ⊤ := (le_max_left _ _).trans_lt h2
  have h4 : -(c (ix2 q 0) : EReal) < ⊤ := (le_max_right _ _).trans_lt h2
  refine ⟨(c (ix2 q 0) : EReal).toReal, (EReal.coe_toReal h3.ne ?_).symm⟩
  intro e
  rw [e] at h4
  exact absurd h4 (by simp)

/-- … and two nearest centers are equal. -/
theorem both_unique {D : FVec Ideal S131072x512 .f32} {c : FVec Ideal S512x1 .f32} (h : both D c = fun _ => 1#1) (r : Fin 131072) (p q : Fin 512)
    (hp : ∀ k : Fin 512, (D (ix2 r p) : EReal) ≤ D (ix2 r k)) (hq : ∀ k : Fin 512, (D (ix2 r q) : EReal) ≤ D (ix2 r k)) :
    (c (ix2 p 0) : EReal) = c (ix2 q 0) := by
  have h0 := (IntOp.andi_eq_one.1 (congrFun h ix0)).2
  have h1 := Host.reduce_andi_all _ _ _ _ _ h0 (ix1 r)
  rw [equal_apply] at h1
  have e := of_bit h1
  rw [low_apply, high_apply] at e
  have mark (k : Fin 512) (hk : ∀ l : Fin 512, (D (ix2 r k) : EReal) ≤ D (ix2 r l)) : near D (ix2 r k) = 1#1 := by
    rw [near_apply, decide_eq_true]
    · rfl
    · exact Finset.le_fold_min _ |>.mpr ⟨le_top, fun l _ => hk l⟩
  have lo (k : Fin 512) (hk : near D (ix2 r k) = 1#1) :
      (Finset.univ.fold min ⊤ fun k : Fin 512 => Scalar.select (near D (ix2 r k)) (c (ix2 k 0) : EReal) ⊤) ≤ c (ix2 k 0) := by
    refine (Finset.fold_min_le _).mpr (Or.inr ⟨k, Finset.mem_univ _, ?_⟩)
    rw [hk]; exact le_rfl
  have hi (k : Fin 512) (hk : near D (ix2 r k) = 1#1) :
      (c (ix2 k 0) : EReal) ≤ Finset.univ.fold max ⊥ fun k : Fin 512 => Scalar.select (near D (ix2 r k)) (c (ix2 k 0) : EReal) ⊥ := by
    refine (Finset.le_fold_max _).mpr (Or.inr ⟨k, Finset.mem_univ _, ?_⟩)
    rw [hk]; exact le_rfl
  have mp := mark p hp
  have mq := mark q hq
  exact le_antisymm ((hi p mp).trans (e ▸ lo q mq)) ((hi q mq).trans (e ▸ lo p mp))

variable {x : FVec Ideal S64x2048 .f32} {c : FVec Ideal S512x1 .f32} {W : FVec Ideal S1000x2048 .f32} {b : FVec Ideal S1000 .f32}

/-- The precondition makes every center finite. -/
theorem pre_finite (h : fn x c W b = fun _ => 1#1) (q : Fin 512) : ∃ t : ℝ, c (ix2 q 0) = (t : EReal) :=
  both_finite ((fn_eq x c W b).symm.trans h) q

/-- The precondition makes two nearest centers of an entry equal. -/
theorem pre_unique (h : fn x c W b = fun _ => 1#1) (r : Fin 131072) (p q : Fin 512)
    (hp : ∀ k : Fin 512, dist2 (Reference.entry x r) (c (ix2 p 0)) ≤ dist2 (Reference.entry x r) (c (ix2 k 0)))
    (hq : ∀ k : Fin 512, dist2 (Reference.entry x r) (c (ix2 q 0)) ≤ dist2 (Reference.entry x r) (c (ix2 k 0))) :
    (c (ix2 p 0) : EReal) = c (ix2 q 0) := by
  refine both_unique ((fn_eq x c W b).symm.trans h) r p q (fun k => ?_) (fun k => ?_)
  · have := hp k; rw [← Reference.dist_apply, ← Reference.dist_apply] at this; exact this
  · have := hq k; rw [← Reference.dist_apply, ← Reference.dist_apply] at this; exact this

end Cert.Proof.Unique

end
-- ==== Proof.Agree.lean ====
/- The kernel's value is the reference's, under the precondition. -/
module

public import proofs.«01_k».proof.Proof.Levels
public import proofs.«01_k».proof.Proof.ArgMin
public import proofs.«01_k».proof.Proof.Unique

@[expose] public section

set_option maxRecDepth 16384

noncomputable section

namespace Cert.Proof.Quantize

open Cert.KernelIdeal Cert.KernelIdeal.Gen
open Idealize.ShloMosaic Idealize.ShloMosaic.Pointwise

attribute [local instance] Cert.ReferenceIdeal.Gen.facts Cert.Pre_nearest_unique.Gen.facts

/-- A bias is named by its number. -/
theorem bias_at (b : FVec Ideal S1000 .f32) (k a : Fin 1000) (h : a.val = k.val) : b (ix1 a) = b (ix1 k) := by
  rw [Fin.ext h]

/-- The dense layer is the same product and sum in both programs. -/
theorem dense_eq (x : FVec Ideal S64x2048 .f32) (W : FVec Ideal S1000x2048 .f32) (b : FVec Ideal S1000 .f32) :
    mmOut x W (biasRows b) = Reference.dense x W b := by
  funext j
  obtain ⟨i, k, rfl⟩ : ∃ (i : Fin 64) (k : Fin 1000), j = ix2 i k := ⟨j 0, j 1, by funext a; fin_cases a <;> rfl⟩
  pointwise [Reference.dense, mmOut, k2_pay1, biasRows]
  exact congrArg _ (bias_at b k _ (show 0 + 1 * k.val = k.val by omega))

variable {x : FVec Ideal S64x2048 .f32} {c : FVec Ideal S512x1 .f32} {W : FVec Ideal S1000x2048 .f32} {b : FVec Ideal S1000 .f32}

/-- Every entry is quantised to the same center. -/
theorem quantised_eq (h : Cert.Pre_nearest_unique.fn x c W b = fun _ => 1#1) : quantised x c = Reference.rounded x c := by
  funext j
  obtain ⟨i, k, rfl⟩ : ∃ (i : Fin 64) (k : Fin 2048), j = ix2 i k := ⟨j 0, j 1, by funext a; fin_cases a <;> rfl⟩
  have hr : i.val * 2048 + k.val < 131072 := by omega
  obtain ⟨a, ha, hnear⟩ := Reference.rounded_spec x c i k ⟨i.val * 2048 + k.val, hr⟩ rfl
  choose t ht using Unique.pre_finite h
  have he : Reference.entry x ⟨i.val * 2048 + k.val, hr⟩ = x (ix2 i k) := by
    unfold Reference.entry
    congr 2
    · exact Fin.ext (show (i.val * 2048 + k.val) / 2048 = i.val by omega)
    · exact Fin.ext (show (i.val * 2048 + k.val) % 2048 = k.val by omega)
  obtain ⟨p, hp, hpnear⟩ := quant_spec ht (x (ix2 i k))
  rw [quantised_apply, ha, hp]
  exact Unique.pre_unique h ⟨i.val * 2048 + k.val, hr⟩ p a (by rw [he]; exact hpnear) hnear

/-- The two programs compute the same result. -/
theorem result_eq (h : Cert.Pre_nearest_unique.fn x c W b = fun _ => 1#1) :
    mmOut (quantised x c) W (biasRows b) = Reference.dense (Reference.rounded x c) W b := by
  rw [quantised_eq h, dense_eq]

end Cert.Proof.Quantize

end
-- ==== Proof.Claims.lean ====
/- The reference's frames, and the claim that both programs leave the same result. -/
module

public import proofs.«01_k».proof.Proof.Run
public import proofs.«01_k».proof.Proof.Agree

@[expose] public section

set_option maxRecDepth 16384

noncomputable section

namespace Cert.Proof.Reference

open Cert.ReferenceIdeal Cert.ReferenceIdeal.Gen
open Idealize.ShloMosaic Idealize.SL.Sem Idealize.ShloMosaic.TcCoe

attribute [local instance] Cert.ReferenceIdeal.Gen.facts

variable {F : FTy → Type} [FloatOps F] {m : (ℓ : Loc nD τ sig) → Buf (Elt F) ℓ} {r : PUnit × MemSt nD τ sig (Elt F)}

/-- The reference leaves its arguments as they were. -/
theorem kept_arg (h : ∀ (d : Dev nD) (b : Ref sig .tc), r.2.mem ((d.tc : Thread nD τ).loc b) = StableHlo.after ops (StableHlo.launchContents m d) (Proc.devRef .tc b)) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3) :=
  ⟨(h d main_arg0).trans (arg_eq _ main_arg0 (by simp)), (h d main_arg1).trans (arg_eq _ main_arg1 (by simp)),
   (h d main_arg2).trans (arg_eq _ main_arg2 (by simp)), (h d main_arg3).trans (arg_eq _ main_arg3 (by simp))⟩

/-- And its result holds the dense layer of the rounded entries. -/
theorem kept_res (h : ∀ (d : Dev nD) (b : Ref sig .tc), r.2.mem ((d.tc : Thread nD τ).loc b) = StableHlo.after ops (StableHlo.launchContents m d) (Proc.devRef .tc b)) (d : Dev nD) :
    r.2.mem ((d.tc : Thread nD τ).loc main_v25)
      = dense (rounded (m ((d.tc : Thread nD τ).loc main_arg0)) (m ((d.tc : Thread nD τ).loc main_arg1)))
          (m ((d.tc : Thread nD τ).loc main_arg2)) (m ((d.tc : Thread nD τ).loc main_arg3)) :=
  (h d main_v25).trans (out_eq _)

end Cert.Proof.Reference

namespace Cert.Proof

open Idealize.ShloMosaic Idealize.SL.Sem

/-- The frame of the reference. -/
theorem frame_referenceIdeal : Cert.quiescent_ReferenceIdeal (hReferenceIdeal := Cert.ReferenceIdeal.Gen.facts) := fun m ρ _ =>
  (θ_run (Cert.ReferenceIdeal.defs (F := Ideal)) _ _).mono (fun _ h => ⟨fun c => Reference.kept_arg h.1 c, h.2⟩) (Reference.run (F := Ideal) m ρ)

/-- The same for the inputs the value claim speaks of. -/
theorem frame_referenceIdeal_pre :
    Cert.quiescent_ReferenceIdeal_pre_nearest_unique (hReferenceIdeal := Cert.ReferenceIdeal.Gen.facts) (hPre_nearest_unique := Cert.Pre_nearest_unique.Gen.facts) := fun m ρ _ =>
  frame_referenceIdeal m ρ (by trivial)

/-- Where no entry has two different nearest centers, and every center is finite, the kernel's result is the reference's. -/
theorem algebraic_kernelIdeal :
    Cert.algebraic_KernelIdeal_ReferenceIdeal_pre_nearest_unique (hKernelIdeal := Cert.KernelIdeal.Gen.facts)
      (hReferenceIdeal := Cert.ReferenceIdeal.Gen.facts) (hPre_nearest_unique := Cert.Pre_nearest_unique.Gen.facts) := by
  intro m ρ m' ρ' hpre hargs
  refine ⟨fun c => Quantize.w6 (F := Ideal) m c (Quantize.nm Cert.KernelIdeal.main_v13), ?_, ?_⟩
  · exact (θ_run (Cert.KernelIdeal.defs (F := Ideal)) _ _).mono
      (fun _ h c => ⟨Quantize.kept_res m h.1 c, Quantize.kept_arg (F := Ideal) m h.1 c⟩) (Quantize.run_main (F := Ideal) m ρ)
  · refine (θ_run (Cert.ReferenceIdeal.defs (F := Ideal)) _ _).mono (fun _ h c => ⟨?_, Reference.kept_arg h.1 c⟩) (Reference.run (F := Ideal) m' ρ')
    obtain ⟨e0, e1, e2, e3⟩ := hargs c
    have hk := (Quantize.w6_out (F := Ideal) m c).trans (Quantize.result_eq (hpre c))
    refine (Reference.kept_res h.1 c).trans ?_
    rw [e0, e1, e2, e3]
    exact hk.symm

end Cert.Proof

end
-- ==== Proof.lean ====
module

public import proofs.«01_k».proof.Defs
public import proofs.«01_k».proof.Proof.Claims

@[expose] public section

noncomputable section

namespace Cert.Proof

/-- Every claim: the frames of the three programs, that the kernel over the extended reals is the kernel as printed, and
that its result is the reference's. -/
theorem claim : Cert.Claim :=
  ⟨Cert.Kernel.Gen.facts, Cert.KernelIdeal.Gen.facts, Cert.ReferenceIdeal.Gen.facts, Cert.Pre_nearest_unique.Gen.facts,
   frame_kernel, frame_kernelIdeal, frame_kernelIdeal_pre, frame_referenceIdeal, frame_referenceIdeal_pre, trivial, algebraic_kernelIdeal⟩

end Cert.Proof

end
